-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_indices_in_range [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)) (m ((c.tc : Thread Cert.KernelIdeal.nD Cert.KernelIdeal.τ).loc Cert.KernelIdeal.main_arg31))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_indices_in_range [hPre_indices_in_range : Cert.Pre_indices_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_indices_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30)) (m ((c.tc : Thread Cert.ReferenceIdeal.nD Cert.ReferenceIdeal.τ).loc Cert.ReferenceIdeal.main_arg31))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30)
      ∧ r.2.mem ((c.tc : Thread Cert.Kernel.nD Cert.Kernel.τ).loc Cert.Kernel.main_arg31) = m ((c.tc : Thread Cert.Kernel.nD Cert.Kernel.τ).loc Cert.Kernel.main_arg31))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_KernelIdeal_pre_indices_in_range [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_indices_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
      ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def quiescent_ReferenceIdeal_pre_indices_in_range [hReferenceIdeal : Cert.ReferenceIdeal.Facts] [hPre_indices_in_range : Cert.Pre_indices_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_indices_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30)
      ∧ r.2.mem ((c.tc : Thread Cert.ReferenceIdeal.nD Cert.ReferenceIdeal.τ).loc Cert.ReferenceIdeal.main_arg31) = m ((c.tc : Thread Cert.ReferenceIdeal.nD Cert.ReferenceIdeal.τ).loc Cert.ReferenceIdeal.main_arg31))
      ∧ r.2.sem = fun _ => 0)

def preserves_Kernel_KernelIdeal : Prop :=
  True

def algebraic_KernelIdeal_ReferenceIdeal_pre_indices_in_range [hKernelIdeal : Cert.KernelIdeal.Facts] [hReferenceIdeal : Cert.ReferenceIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_indices_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)
      ∧ m' ((c.tc : Thread Cert.ReferenceIdeal.nD Cert.ReferenceIdeal.τ).loc Cert.ReferenceIdeal.main_arg31) = m ((c.tc : Thread Cert.KernelIdeal.nD Cert.KernelIdeal.τ).loc Cert.KernelIdeal.main_arg31)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30)
          ∧ r.2.mem ((c.tc : Thread Cert.KernelIdeal.nD Cert.KernelIdeal.τ).loc Cert.KernelIdeal.main_arg31) = m ((c.tc : Thread Cert.KernelIdeal.nD Cert.KernelIdeal.τ).loc Cert.KernelIdeal.main_arg31))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30)
          ∧ r.2.mem ((c.tc : Thread Cert.ReferenceIdeal.nD Cert.ReferenceIdeal.τ).loc Cert.ReferenceIdeal.main_arg31) = m' ((c.tc : Thread Cert.ReferenceIdeal.nD Cert.ReferenceIdeal.τ).loc Cert.ReferenceIdeal.main_arg31))

def Claim : Prop :=
  ∃ (hKernel : Cert.Kernel.Facts) (hKernelIdeal : Cert.KernelIdeal.Facts) (hReferenceIdeal : Cert.ReferenceIdeal.Facts) (hPre_indices_in_range : Cert.Pre_indices_in_range.Facts),
    quiescent_Kernel (hKernel := hKernel)
    ∧ quiescent_KernelIdeal (hKernelIdeal := hKernelIdeal)
    ∧ quiescent_KernelIdeal_pre_indices_in_range (hKernelIdeal := hKernelIdeal) (hPre_indices_in_range := hPre_indices_in_range)
    ∧ quiescent_ReferenceIdeal (hReferenceIdeal := hReferenceIdeal)
    ∧ quiescent_ReferenceIdeal_pre_indices_in_range (hReferenceIdeal := hReferenceIdeal) (hPre_indices_in_range := hPre_indices_in_range)
    ∧ preserves_Kernel_KernelIdeal
    ∧ algebraic_KernelIdeal_ReferenceIdeal_pre_indices_in_range (hKernelIdeal := hKernelIdeal) (hReferenceIdeal := hReferenceIdeal) (hPre_indices_in_range := hPre_indices_in_range)
-- ==== Pre_indices_in_range.lean ====
abbrev S32x128 : Shape := ⟨2, ![32, 128]⟩
abbrev S32 : Shape := ⟨1, ![32]⟩
abbrev S64x16 : Shape := ⟨2, ![64, 16]⟩
abbrev S128x16 : Shape := ⟨2, ![128, 16]⟩
abbrev S256x16 : Shape := ⟨2, ![256, 16]⟩
abbrev S16x16 : Shape := ⟨2, ![16, 16]⟩
abbrev S16 : Shape := ⟨1, ![16]⟩
abbrev S32x16 : Shape := ⟨2, ![32, 16]⟩
abbrev S48x16 : Shape := ⟨2, ![48, 16]⟩
abbrev S144x64 : Shape := ⟨2, ![144, 64]⟩
abbrev S64 : Shape := ⟨1, ![64]⟩
abbrev S80x32 : Shape := ⟨2, ![80, 32]⟩
abbrev S32x8 : Shape := ⟨2, ![32, 8]⟩
abbrev S8 : Shape := ⟨1, ![8]⟩
abbrev S24x1 : Shape := ⟨2, ![24, 1]⟩
abbrev S1 : Shape := ⟨1, ![1]⟩
abbrev S512 : Shape := ⟨1, ![512]⟩
abbrev S2048 : Shape := ⟨1, ![2048]⟩
abbrev S8192 : Shape := ⟨1, ![8192]⟩
abbrev S32768 : Shape := ⟨1, ![32768]⟩
abbrev S65536 : Shape := ⟨1, ![65536]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel
  bcast_S_S512 : S_.BroadcastsInDim S512 (![] : Fin 0 → Fin S512.rank)
  reducesTo_S512_S_d0 : S512.ReducesTo [0] S_
  bcast_S_S2048 : S_.BroadcastsInDim S2048 (![] : Fin 0 → Fin S2048.rank)
  reducesTo_S2048_S_d0 : S2048.ReducesTo [0] S_
  bcast_S_S8192 : S_.BroadcastsInDim S8192 (![] : Fin 0 → Fin S8192.rank)
  reducesTo_S8192_S_d0 : S8192.ReducesTo [0] S_
  bcast_S_S32768 : S_.BroadcastsInDim S32768 (![] : Fin 0 → Fin S32768.rank)
  reducesTo_S32768_S_d0 : S32768.ReducesTo [0] S_
  bcast_S_S65536 : S_.BroadcastsInDim S65536 (![] : Fin 0 → Fin S65536.rank)
  reducesTo_S65536_S_d0 : S65536.ReducesTo [0] S_

variable [Facts]

def fn_part3 {F : FTy → Type} [FloatOps F] (main_arg31 : IVec S65536 32) (main_v47 : IVec S_ 1) (main_v49 : IVec S65536 1) : IVec S_ 1 :=
  let main_c_21 : IVec S_ 32 := constantI S_ 32 32768#32
  let main_v50 : IVec S65536 32 := broadcastInDim S65536 ![] bcast_S_S65536 main_c_21
  let main_v51 : IVec S65536 1 := cmpi .slt main_arg31 main_v50
  let main_v52 : IVec S65536 1 := andi main_v49 main_v51
  let main_c_22 : IVec S_ 1 := constantI S_ 1 1#1
  let main_v53 : IVec S_ 1 := (fun x v => Host.reduce IntOp.andi x v reducesTo_S65536_S_d0 h_S_) main_v52 main_c_22
  let main_v54 : IVec S_ 1 := andi main_v47 main_v53
  main_v54

def fn_part2 {F : FTy → Type} [FloatOps F] (main_arg29 : IVec S8192 32) (main_arg30 : IVec S32768 32) (main_arg31 : IVec S65536 32) (main_v26 : IVec S_ 1) (main_v32 : IVec S_ 1) : IVec S_ 1 :=
  let main_v33 : IVec S_ 1 := andi main_v26 main_v32
  let main_c_14 : IVec S_ 32 := constantI S_ 32 0#32
  let main_v34 : IVec S8192 32 := broadcastInDim S8192 ![] bcast_S_S8192 main_c_14
  let main_v35 : IVec S8192 1 := cmpi .sge main_arg29 main_v34
  let main_c_15 : IVec S_ 32 := constantI S_ 32 2048#32
  let main_v36 : IVec S8192 32 := broadcastInDim S8192 ![] bcast_S_S8192 main_c_15
  let main_v37 : IVec S8192 1 := cmpi .slt main_arg29 main_v36
  let main_v38 : IVec S8192 1 := andi main_v35 main_v37
  let main_c_16 : IVec S_ 1 := constantI S_ 1 1#1
  let main_v39 : IVec S_ 1 := (fun x v => Host.reduce IntOp.andi x v reducesTo_S8192_S_d0 h_S_) main_v38 main_c_16
  let main_v40 : IVec S_ 1 := andi main_v33 main_v39
  let main_c_17 : IVec S_ 32 := constantI S_ 32 0#32
  let main_v41 : IVec S32768 32 := broadcastInDim S32768 ![] bcast_S_S32768 main_c_17
  let main_v42 : IVec S32768 1 := cmpi .sge main_arg30 main_v41
  let main_c_18 : IVec S_ 32 := constantI S_ 32 8192#32
  let main_v43 : IVec S32768 32 := broadcastInDim S32768 ![] bcast_S_S32768 main_c_18
  let main_v44 : IVec S32768 1 := cmpi .slt main_arg30 main_v43
  let main_v45 : IVec S32768 1 := andi main_v42 main_v44
  let main_c_19 : IVec S_ 1 := constantI S_ 1 1#1
  let main_v46 : IVec S_ 1 := (fun x v => Host.reduce IntOp.andi x v reducesTo_S32768_S_d0 h_S_) main_v45 main_c_19
  let main_v47 : IVec S_ 1 := andi main_v40 main_v46
  let main_c_20 : IVec S_ 32 := constantI S_ 32 0#32
  let main_v48 : IVec S65536 32 := broadcastInDim S65536 ![] bcast_S_S65536 main_c_20
  let main_v49 : IVec S65536 1 := cmpi .sge main_arg31 main_v48
  fn_part3 (F := F) main_arg31 main_v47 main_v49

def fn_part1 {F : FTy → Type} [FloatOps F] (main_arg3 : IVec S32 32) (main_arg27 : IVec S512 32) (main_arg28 : IVec S2048 32) (main_arg29 : IVec S8192 32) (main_arg30 : IVec S32768 32) (main_arg31 : IVec S65536 32) (main_v12 : IVec S_ 1) (main_v14 : IVec S32 1) (main_v15 : IVec S32 32) : IVec S_ 1 :=
  let main_v16 : IVec S32 1 := cmpi .slt main_arg3 main_v15
  let main_v17 : IVec S32 1 := andi main_v14 main_v16
  let main_c_7 : IVec S_ 1 := constantI S_ 1 1#1
  let main_v18 : IVec S_ 1 := (fun x v => Host.reduce IntOp.andi x v reducesTo_S32_S_d0 h_S_) main_v17 main_c_7
  let main_v19 : IVec S_ 1 := andi main_v12 main_v18
  let main_c_8 : IVec S_ 32 := constantI S_ 32 0#32
  let main_v20 : IVec S512 32 := broadcastInDim S512 ![] bcast_S_S512 main_c_8
  let main_v21 : IVec S512 1 := cmpi .sge main_arg27 main_v20
  let main_c_9 : IVec S_ 32 := constantI S_ 32 128#32
  let main_v22 : IVec S512 32 := broadcastInDim S512 ![] bcast_S_S512 main_c_9
  let main_v23 : IVec S512 1 := cmpi .slt main_arg27 main_v22
  let main_v24 : IVec S512 1 := andi main_v21 main_v23
  let main_c_10 : IVec S_ 1 := constantI S_ 1 1#1
  let main_v25 : IVec S_ 1 := (fun x v => Host.reduce IntOp.andi x v reducesTo_S512_S_d0 h_S_) main_v24 main_c_10
  let main_v26 : IVec S_ 1 := andi main_v19 main_v25
  let main_c_11 : IVec S_ 32 := constantI S_ 32 0#32
  let main_v27 : IVec S2048 32 := broadcastInDim S2048 ![] bcast_S_S2048 main_c_11
  let main_v28 : IVec S2048 1 := cmpi .sge main_arg28 main_v27
  let main_c_12 : IVec S_ 32 := constantI S_ 32 512#32
  let main_v29 : IVec S2048 32 := broadcastInDim S2048 ![] bcast_S_S2048 main_c_12
  let main_v30 : IVec S2048 1 := cmpi .slt main_arg28 main_v29
  let main_v31 : IVec S2048 1 := andi main_v28 main_v30
  let main_c_13 : IVec S_ 1 := constantI S_ 1 1#1
  let main_v32 : IVec S_ 1 := (fun x v => Host.reduce IntOp.andi x v reducesTo_S2048_S_d0 h_S_) main_v31 main_c_13
  fn_part2 (F := F) main_arg29 main_arg30 main_arg31 main_v26 main_v32

def fn {F : FTy → Type} [FloatOps F] (main_arg0 : FVec F S32x128 .f32) (main_arg1 : IVec S32 32) (main_arg2 : IVec S32 32) (main_arg3 : IVec S32 32) (main_arg4 : FVec F S64x16 .f32) (main_arg5 : FVec F S128x16 .f32) (main_arg6 : FVec F S256x16 .f32) (main_arg7 : FVec F S16x16 .f32) (main_arg8 : FVec F S16 .f32) (main_arg9 : FVec F S32x16 .f32) (main_arg10 : FVec F S16 .f32) (main_arg11 : FVec F S48x16 .f32) (main_arg12 : FVec F S16 .f32) (main_arg13 : FVec F S48x16 .f32) (main_arg14 : FVec F S16 .f32) (main_arg15 : FVec F S48x16 .f32) (main_arg16 : FVec F S16 .f32) (main_arg17 : FVec F S144x64 .f32) (main_arg18 : FVec F S64 .f32) (main_arg19 : FVec F S80x32 .f32) (main_arg20 : FVec F S32 .f32) (main_arg21 : FVec F S48x16 .f32) (main_arg22 : FVec F S16 .f32) (main_arg23 : FVec F S32x8 .f32) (main_arg24 : FVec F S8 .f32) (main_arg25 : FVec F S24x1 .f32) (main_arg26 : FVec F S1 .f32) (main_arg27 : IVec S512 32) (main_arg28 : IVec S2048 32) (main_arg29 : IVec S8192 32) (main_arg30 : IVec S32768 32) (main_arg31 : IVec S65536 32) : IVec S_ 1 :=
  let main_c : IVec S_ 32 := constantI S_ 32 0#32
  let main_v0 : IVec S32 32 := broadcastInDim S32 ![] bcast_S_S32 main_c
  let main_v1 : IVec S32 1 := cmpi .sge main_arg1 main_v0
  let main_c_0 : IVec S_ 32 := constantI S_ 32 64#32
  let main_v2 : IVec S32 32 := broadcastInDim S32 ![] bcast_S_S32 main_c_0
  let main_v3 : IVec S32 1 := cmpi .slt main_arg1 main_v2
  let main_v4 : IVec S32 1 := andi main_v1 main_v3
  let main_c_1 : IVec S_ 1 := constantI S_ 1 1#1
  let main_v5 : IVec S_ 1 := (fun x v => Host.reduce IntOp.andi x v reducesTo_S32_S_d0 h_S_) main_v4 main_c_1
  let main_c_2 : IVec S_ 32 := constantI S_ 32 0#32
  let main_v6 : IVec S32 32 := broadcastInDim S32 ![] bcast_S_S32 main_c_2
  let main_v7 : IVec S32 1 := cmpi .sge main_arg2 main_v6
  let main_c_3 : IVec S_ 32 := constantI S_ 32 128#32
  let main_v8 : IVec S32 32 := broadcastInDim S32 ![] bcast_S_S32 main_c_3
  let main_v9 : IVec S32 1 := cmpi .slt main_arg2 main_v8
  let main_v10 : IVec S32 1 := andi main_v7 main_v9
  let main_c_4 : IVec S_ 1 := constantI S_ 1 1#1
  let main_v11 : IVec S_ 1 := (fun x v => Host.reduce IntOp.andi x v reducesTo_S32_S_d0 h_S_) main_v10 main_c_4
  let main_v12 : IVec S_ 1 := andi main_v5 main_v11
  let main_c_5 : IVec S_ 32 := constantI S_ 32 0#32
  let main_v13 : IVec S32 32 := broadcastInDim S32 ![] bcast_S_S32 main_c_5
  let main_v14 : IVec S32 1 := cmpi .sge main_arg3 main_v13
  let main_c_6 : IVec S_ 32 := constantI S_ 32 256#32
  let main_v15 : IVec S32 32 := broadcastInDim S32 ![] bcast_S_S32 main_c_6
  fn_part1 (F := F) main_arg3 main_arg27 main_arg28 main_arg29 main_arg30 main_arg31 main_v12 main_v14 main_v15
-- ==== Kernel.lean ====
abbrev S32x128 : Shape := ⟨2, ![32, 128]⟩
abbrev S32 : Shape := ⟨1, ![32]⟩
abbrev S64x16 : Shape := ⟨2, ![64, 16]⟩
abbrev S128x16 : Shape := ⟨2, ![128, 16]⟩
abbrev S256x16 : Shape := ⟨2, ![256, 16]⟩
abbrev S16x16 : Shape := ⟨2, ![16, 16]⟩
abbrev S16 : Shape := ⟨1, ![16]⟩
abbrev S32x16 : Shape := ⟨2, ![32, 16]⟩
abbrev S48x16 : Shape := ⟨2, ![48, 16]⟩
abbrev S144x64 : Shape := ⟨2, ![144, 64]⟩
abbrev S64 : Shape := ⟨1, ![64]⟩
abbrev S80x32 : Shape := ⟨2, ![80, 32]⟩
abbrev S32x8 : Shape := ⟨2, ![32, 8]⟩
abbrev S8 : Shape := ⟨1, ![8]⟩
abbrev S24x1 : Shape := ⟨2, ![24, 1]⟩
abbrev S1 : Shape := ⟨1, ![1]⟩
abbrev S512 : Shape := ⟨1, ![512]⟩
abbrev S2048 : Shape := ⟨1, ![2048]⟩
abbrev S8192 : Shape := ⟨1, ![8192]⟩
abbrev S32768 : Shape := ⟨1, ![32768]⟩
abbrev S65536 : Shape := ⟨1, ![65536]⟩
abbrev S24 : Shape := ⟨1, ![24]⟩
abbrev S16x64 : Shape := ⟨2, ![16, 64]⟩
abbrev S16x128 : Shape := ⟨2, ![16, 128]⟩
abbrev S16x256 : Shape := ⟨2, ![16, 256]⟩
abbrev S16x32 : Shape := ⟨2, ![16, 32]⟩
abbrev S16x48 : Shape := ⟨2, ![16, 48]⟩
abbrev S64x144 : Shape := ⟨2, ![64, 144]⟩
abbrev S32x80 : Shape := ⟨2, ![32, 80]⟩
abbrev S8x32 : Shape := ⟨2, ![8, 32]⟩
abbrev S32x512x128 : Shape := ⟨3, ![32, 512, 128]⟩
abbrev S32x1 : Shape := ⟨2, ![32, 1]⟩
abbrev S27 : Shape := ⟨1, ![27]⟩
abbrev S_ : Shape := ⟨0, ![]⟩
abbrev S1x32 : Shape := ⟨2, ![1, 32]⟩
abbrev S32x64 : Shape := ⟨2, ![32, 64]⟩
abbrev S32x256 : Shape := ⟨2, ![32, 256]⟩
abbrev S32x48 : Shape := ⟨2, ![32, 48]⟩
abbrev S1x16 : Shape := ⟨2, ![1, 16]⟩
abbrev S32x32 : Shape := ⟨2, ![32, 32]⟩
abbrev S32x144 : Shape := ⟨2, ![32, 144]⟩
abbrev S1x64 : Shape := ⟨2, ![1, 64]⟩
abbrev S1x8 : Shape := ⟨2, ![1, 8]⟩
abbrev S32x24 : Shape := ⟨2, ![32, 24]⟩
abbrev S1x24 : Shape := ⟨2, ![1, 24]⟩
abbrev S1x1 : Shape := ⟨2, ![1, 1]⟩
abbrev S32x1x1 : Shape := ⟨3, ![32, 1, 1]⟩
abbrev S32x65536x1 : Shape := ⟨3, ![32, 65536, 1]⟩

abbrev nBuf : Space → Nat
  | .hbm => 46
  | .vmem => 29
  | .smem => 0
  | _ => 0

abbrev bufTy : (tb : Table) → Fin (tcTables nBuf tb) → BufTy
  | .hbm, ⟨0, _⟩ => ⟨S32x128, .f32⟩
  | .hbm, ⟨1, _⟩ => ⟨S32, .i32⟩
  | .hbm, ⟨2, _⟩ => ⟨S32, .i32⟩
  | .hbm, ⟨3, _⟩ => ⟨S32, .i32⟩
  | .hbm, ⟨4, _⟩ => ⟨S64x16, .f32⟩
  | .hbm, ⟨5, _⟩ => ⟨S128x16, .f32⟩
  | .hbm, ⟨6, _⟩ => ⟨S256x16, .f32⟩
  | .hbm, ⟨7, _⟩ => ⟨S16x16, .f32⟩
  | .hbm, ⟨8, _⟩ => ⟨S16, .f32⟩
  | .hbm, ⟨9, _⟩ => ⟨S32x16, .f32⟩
  | .hbm, ⟨10, _⟩ => ⟨S16, .f32⟩
  | .hbm, ⟨11, _⟩ => ⟨S48x16, .f32⟩
  | .hbm, ⟨12, _⟩ => ⟨S16, .f32⟩
  | .hbm, ⟨13, _⟩ => ⟨S48x16, .f32⟩
  | .hbm, ⟨14, _⟩ => ⟨S16, .f32⟩
  | .hbm, ⟨15, _⟩ => ⟨S48x16, .f32⟩
  | .hbm, ⟨16, _⟩ => ⟨S16, .f32⟩
  | .hbm, ⟨17, _⟩ => ⟨S144x64, .f32⟩
  | .hbm, ⟨18, _⟩ => ⟨S64, .f32⟩
  | .hbm, ⟨19, _⟩ => ⟨S80x32, .f32⟩
  | .hbm, ⟨20, _⟩ => ⟨S32, .f32⟩
  | .hbm, ⟨21, _⟩ => ⟨S48x16, .f32⟩
  | .hbm, ⟨22, _⟩ => ⟨S16, .f32⟩
  | .hbm, ⟨23, _⟩ => ⟨S32x8, .f32⟩
  | .hbm, ⟨24, _⟩ => ⟨S8, .f32⟩
  | .hbm, ⟨25, _⟩ => ⟨S24x1, .f32⟩
  | .hbm, ⟨26, _⟩ => ⟨S1, .f32⟩
  | .hbm, ⟨27, _⟩ => ⟨S512, .i32⟩
  | .hbm, ⟨28, _⟩ => ⟨S2048, .i32⟩
  | .hbm, ⟨29, _⟩ => ⟨S8192, .i32⟩
  | .hbm, ⟨30, _⟩ => ⟨S32768, .i32⟩
  | .hbm, ⟨31, _⟩ => ⟨S65536, .i32⟩
  | .hbm, ⟨32, _⟩ => ⟨S24, .f32⟩
  | .hbm, ⟨33, _⟩ => ⟨S16x64, .f32⟩
  | .hbm, ⟨34, _⟩ => ⟨S16x128, .f32⟩
  | .hbm, ⟨35, _⟩ => ⟨S16x256, .f32⟩
  | .hbm, ⟨36, _⟩ => ⟨S16x32, .f32⟩
  | .hbm, ⟨37, _⟩ => ⟨S16x48, .f32⟩
  | .hbm, ⟨38, _⟩ => ⟨S16x48, .f32⟩
  | .hbm, ⟨39, _⟩ => ⟨S16x48, .f32⟩
  | .hbm, ⟨40, _⟩ => ⟨S64x144, .f32⟩
  | .hbm, ⟨41, _⟩ => ⟨S32x80, .f32⟩
  | .hbm, ⟨42, _⟩ => ⟨S16x48, .f32⟩
  | .hbm, ⟨43, _⟩ => ⟨S8x32, .f32⟩
  | .hbm, ⟨44, _⟩ => ⟨S32x512x128, .f32⟩
  | .hbm, ⟨45, _⟩ => ⟨S32x65536x1, .f32⟩
  | .local _ .vmem, ⟨0, _⟩ => ⟨S32x512x128, .f32⟩
  | .local _ .vmem, ⟨1, _⟩ => ⟨S32, .i32⟩
  | .local _ .vmem, ⟨2, _⟩ => ⟨S32, .i32⟩
  | .local _ .vmem, ⟨3, _⟩ => ⟨S32, .i32⟩
  | .local _ .vmem, ⟨4, _⟩ => ⟨S16, .f32⟩
  | .local _ .vmem, ⟨5, _⟩ => ⟨S16, .f32⟩
  | .local _ .vmem, ⟨6, _⟩ => ⟨S16, .f32⟩
  | .local _ .vmem, ⟨7, _⟩ => ⟨S16, .f32⟩
  | .local _ .vmem, ⟨8, _⟩ => ⟨S16, .f32⟩
  | .local _ .vmem, ⟨9, _⟩ => ⟨S64, .f32⟩
  | .local _ .vmem, ⟨10, _⟩ => ⟨S32, .f32⟩
  | .local _ .vmem, ⟨11, _⟩ => ⟨S16, .f32⟩
  | .local _ .vmem, ⟨12, _⟩ => ⟨S8, .f32⟩
  | .local _ .vmem, ⟨13, _⟩ => ⟨S1, .f32⟩
  | .local _ .vmem, ⟨14, _⟩ => ⟨S24, .f32⟩
  | .local _ .vmem, ⟨15, _⟩ => ⟨S32x128, .f32⟩
  | .local _ .vmem, ⟨16, _⟩ => ⟨S16x64, .f32⟩
  | .local _ .vmem, ⟨17, _⟩ => ⟨S16x128, .f32⟩
  | .local _ .vmem, ⟨18, _⟩ => ⟨S16x256, .f32⟩
  | .local _ .vmem, ⟨19, _⟩ => ⟨S16x16, .f32⟩
  | .local _ .vmem, ⟨20, _⟩ => ⟨S16x32, .f32⟩
  | .local _ .vmem, ⟨21, _⟩ => ⟨S16x48, .f32⟩
  | .local _ .vmem, ⟨22, _⟩ => ⟨S16x48, .f32⟩
  | .local _ .vmem, ⟨23, _⟩ => ⟨S16x48, .f32⟩
  | .local _ .vmem, ⟨24, _⟩ => ⟨S64x144, .f32⟩
  | .local _ .vmem, ⟨25, _⟩ => ⟨S32x80, .f32⟩
  | .local _ .vmem, ⟨26, _⟩ => ⟨S16x48, .f32⟩
  | .local _ .vmem, ⟨27, _⟩ => ⟨S8x32, .f32⟩
  | .local _ .vmem, ⟨28, _⟩ => ⟨S32x1, .f32⟩
  | _, _ => ⟨S32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_v0 : Ref sig .tc := ⟨.hbm, 32, rfl⟩
abbrev main_v1 : Ref sig .tc := ⟨.hbm, 33, rfl⟩
abbrev main_v2 : Ref sig .tc := ⟨.hbm, 34, rfl⟩
abbrev main_v3 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_scratch13 : Ref sig .tc := ⟨.vmem, 14, rfl⟩
abbrev cc0_scratch14 : Ref sig .tc := ⟨.vmem, 15, rfl⟩
abbrev cc0_scratch15 : Ref sig .tc := ⟨.vmem, 16, rfl⟩
abbrev cc0_scratch16 : Ref sig .tc := ⟨.vmem, 17, rfl⟩
abbrev cc0_scratch17 : Ref sig .tc := ⟨.vmem, 18, rfl⟩
abbrev cc0_scratch18 : Ref sig .tc := ⟨.vmem, 19, rfl⟩
abbrev cc0_scratch19 : Ref sig .tc := ⟨.vmem, 20, rfl⟩
abbrev cc0_scratch20 : Ref sig .tc := ⟨.vmem, 21, rfl⟩
abbrev cc0_scratch21 : Ref sig .tc := ⟨.vmem, 22, rfl⟩
abbrev cc0_scratch22 : Ref sig .tc := ⟨.vmem, 23, rfl⟩
abbrev cc0_scratch23 : Ref sig .tc := ⟨.vmem, 24, rfl⟩
abbrev cc0_scratch24 : Ref sig .tc := ⟨.vmem, 25, rfl⟩
abbrev cc0_scratch25 : Ref sig .tc := ⟨.vmem, 26, rfl⟩
abbrev cc0_scratch26 : Ref sig .tc := ⟨.vmem, 27, rfl⟩
abbrev cc0_scratch27 : Ref sig .tc := ⟨.vmem, 28, rfl⟩
abbrev cc0_sem0_0 : DmaSem sig := 0

abbrev nD : Nat := 1
abbrev τ : Topo := Topo.v7x

variable {F : FTy → Type} [FloatOps F]

abbrev grid0 : Pipeline.Grid := ⟨1, ![1], ![false]⟩

def cc0_transform_27 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S32x512x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]
-- ==== ReferenceIdeal.lean ====
abbrev S32x128 : Shape := ⟨2, ![32, 128]⟩
abbrev S32 : Shape := ⟨1, ![32]⟩
abbrev S64x16 : Shape := ⟨2, ![64, 16]⟩
abbrev S128x16 : Shape := ⟨2, ![128, 16]⟩
abbrev S256x16 : Shape := ⟨2, ![256, 16]⟩
abbrev S16x16 : Shape := ⟨2, ![16, 16]⟩
abbrev S16 : Shape := ⟨1, ![16]⟩
abbrev S32x16 : Shape := ⟨2, ![32, 16]⟩
abbrev S48x16 : Shape := ⟨2, ![48, 16]⟩
abbrev S144x64 : Shape := ⟨2, ![144, 64]⟩
abbrev S64 : Shape := ⟨1, ![64]⟩
abbrev S80x32 : Shape := ⟨2, ![80, 32]⟩
abbrev S32x8 : Shape := ⟨2, ![32, 8]⟩
abbrev S8 : Shape := ⟨1, ![8]⟩
abbrev S24x1 : Shape := ⟨2, ![24, 1]⟩
abbrev S1 : Shape := ⟨1, ![1]⟩
abbrev S512 : Shape := ⟨1, ![512]⟩
abbrev S2048 : Shape := ⟨1, ![2048]⟩
abbrev S8192 : Shape := ⟨1, ![8192]⟩
abbrev S32768 : Shape := ⟨1, ![32768]⟩
abbrev S65536 : Shape := ⟨1, ![65536]⟩
abbrev S_ : Shape := ⟨0, ![]⟩
abbrev S32x1 : Shape := ⟨2, ![32, 1]⟩
abbrev S1x1 : Shape := ⟨2, ![1, 1]⟩
abbrev S32x48 : Shape := ⟨2, ![32, 48]⟩
abbrev S1x16 : Shape := ⟨2, ![1, 16]⟩
abbrev S32x32 : Shape := ⟨2, ![32, 32]⟩
abbrev S32x1x128 : Shape := ⟨3, ![32, 1, 128]⟩
abbrev S32x128x128 : Shape := ⟨3, ![32, 128, 128]⟩
abbrev S32x1x16 : Shape := ⟨3, ![32, 1, 16]⟩
abbrev S32x128x16 : Shape := ⟨3, ![32, 128, 16]⟩
abbrev S32x128x144 : Shape := ⟨3, ![32, 128, 144]⟩
abbrev S512x1 : Shape := ⟨2, ![512, 1]⟩
abbrev S32x512x144 : Shape := ⟨3, ![32, 512, 144]⟩
abbrev S32x512x64 : Shape := ⟨3, ![32, 512, 64]⟩
abbrev S1x1x64 : Shape := ⟨3, ![1, 1, 64]⟩
abbrev S32x512x16 : Shape := ⟨3, ![32, 512, 16]⟩
abbrev S32x512x80 : Shape := ⟨3, ![32, 512, 80]⟩
abbrev S2048x1 : Shape := ⟨2, ![2048, 1]⟩
abbrev S32x2048x80 : Shape := ⟨3, ![32, 2048, 80]⟩
abbrev S32x2048x32 : Shape := ⟨3, ![32, 2048, 32]⟩
abbrev S1x1x32 : Shape := ⟨3, ![1, 1, 32]⟩
abbrev S32x2048x16 : Shape := ⟨3, ![32, 2048, 16]⟩
abbrev S32x2048x48 : Shape := ⟨3, ![32, 2048, 48]⟩
abbrev S8192x1 : Shape := ⟨2, ![8192, 1]⟩
abbrev S32x8192x48 : Shape := ⟨3, ![32, 8192, 48]⟩
abbrev S32x8192x16 : Shape := ⟨3, ![32, 8192, 16]⟩
abbrev S1x1x16 : Shape := ⟨3, ![1, 1, 16]⟩
abbrev S32x8192x32 : Shape := ⟨3, ![32, 8192, 32]⟩
abbrev S32768x1 : Shape := ⟨2, ![32768, 1]⟩
abbrev S32x32768x32 : Shape := ⟨3, ![32, 32768, 32]⟩
abbrev S32x32768x8 : Shape := ⟨3, ![32, 32768, 8]⟩
abbrev S1x1x8 : Shape := ⟨3, ![1, 1, 8]⟩
abbrev S32x32768x16 : Shape := ⟨3, ![32, 32768, 16]⟩
abbrev S32x32768x24 : Shape := ⟨3, ![32, 32768, 24]⟩
abbrev S65536x1 : Shape := ⟨2, ![65536, 1]⟩
abbrev S32x65536x24 : Shape := ⟨3, ![32, 65536, 24]⟩
abbrev S32x65536x1 : Shape := ⟨3, ![32, 65536, 1]⟩
abbrev S1x1x1 : Shape := ⟨3, ![1, 1, 1]⟩

abbrev nBuf : Space → Nat
  | .hbm => 307
  | .vmem => 0
  | .smem => 0
  | _ => 0

abbrev hbmTy0_0 (i : Nat) : BufTy := match i % 128 with
  | 0 => ⟨S32x128, .f32⟩
  | 1 => ⟨S32, .i32⟩
  | 2 => ⟨S32, .i32⟩
  | 3 => ⟨S32, .i32⟩
  | 4 => ⟨S64x16, .f32⟩
  | 5 => ⟨S128x16, .f32⟩
  | 6 => ⟨S256x16, .f32⟩
  | 7 => ⟨S16x16, .f32⟩
  | 8 => ⟨S16, .f32⟩
  | 9 => ⟨S32x16, .f32⟩
  | 10 => ⟨S16, .f32⟩
  | 11 => ⟨S48x16, .f32⟩
  | 12 => ⟨S16, .f32⟩
  | 13 => ⟨S48x16, .f32⟩
  | 14 => ⟨S16, .f32⟩
  | 15 => ⟨S48x16, .f32⟩
  | 16 => ⟨S16, .f32⟩
  | 17 => ⟨S144x64, .f32⟩
  | 18 => ⟨S64, .f32⟩
  | 19 => ⟨S80x32, .f32⟩
  | 20 => ⟨S32, .f32⟩
  | 21 => ⟨S48x16, .f32⟩
  | 22 => ⟨S16, .f32⟩
  | 23 => ⟨S32x8, .f32⟩
  | 24 => ⟨S8, .f32⟩
  | 25 => ⟨S24x1, .f32⟩
  | 26 => ⟨S1, .f32⟩
  | 27 => ⟨S512, .i32⟩
  | 28 => ⟨S2048, .i32⟩
  | 29 => ⟨S8192, .i32⟩
  | 30 => ⟨S32768, .i32⟩
  | 31 => ⟨S65536, .i32⟩
  | 32 => ⟨S_, .i32⟩
  | 33 => ⟨S32, .i32⟩
  | 34 => ⟨S32, .i1⟩
  | 35 => ⟨S_, .i32⟩
  | 36 => ⟨S32, .i32⟩
  | 37 => ⟨S32, .i32⟩
  | 38 => ⟨S32, .i32⟩
  | 39 => ⟨S32x1, .i32⟩
  | 40 => ⟨S1, .i32⟩
  | 41 => ⟨S_, .i32⟩
  | 42 => ⟨S32x1, .i32⟩
  | 43 => ⟨S32x1, .i1⟩
  | 44 => ⟨S1x1, .i32⟩
  | 45 => ⟨S32x1, .i32⟩
  | 46 => ⟨S32x1, .i1⟩
  | 47 => ⟨S32x1, .i1⟩
  | 48 => ⟨S_, .i1⟩
  | 49 => ⟨S32, .i1⟩
  | 50 => ⟨S32x16, .f32⟩
  | 51 => ⟨S32x16, .i1⟩
  | 52 => ⟨S_, .f32⟩
  | 53 => ⟨S32x16, .f32⟩
  | 54 => ⟨S32x16, .f32⟩
  | 55 => ⟨S_, .i32⟩
  | 56 => ⟨S32, .i32⟩
  | 57 => ⟨S32, .i1⟩
  | 58 => ⟨S_, .i32⟩
  | 59 => ⟨S32, .i32⟩
  | 60 => ⟨S32, .i32⟩
  | 61 => ⟨S32, .i32⟩
  | 62 => ⟨S32x1, .i32⟩
  | 63 => ⟨S1, .i32⟩
  | 64 => ⟨S_, .i32⟩
  | 65 => ⟨S32x1, .i32⟩
  | 66 => ⟨S32x1, .i1⟩
  | 67 => ⟨S1x1, .i32⟩
  | 68 => ⟨S32x1, .i32⟩
  | 69 => ⟨S32x1, .i1⟩
  | 70 => ⟨S32x1, .i1⟩
  | 71 => ⟨S_, .i1⟩
  | 72 => ⟨S32, .i1⟩
  | 73 => ⟨S32x16, .f32⟩
  | 74 => ⟨S32x16, .i1⟩
  | 75 => ⟨S_, .f32⟩
  | 76 => ⟨S32x16, .f32⟩
  | 77 => ⟨S32x16, .f32⟩
  | 78 => ⟨S_, .i32⟩
  | 79 => ⟨S32, .i32⟩
  | 80 => ⟨S32, .i1⟩
  | 81 => ⟨S_, .i32⟩
  | 82 => ⟨S32, .i32⟩
  | 83 => ⟨S32, .i32⟩
  | 84 => ⟨S32, .i32⟩
  | 85 => ⟨S32x1, .i32⟩
  | 86 => ⟨S1, .i32⟩
  | 87 => ⟨S_, .i32⟩
  | 88 => ⟨S32x1, .i32⟩
  | 89 => ⟨S32x1, .i1⟩
  | 90 => ⟨S1x1, .i32⟩
  | 91 => ⟨S32x1, .i32⟩
  | 92 => ⟨S32x1, .i1⟩
  | 93 => ⟨S32x1, .i1⟩
  | 94 => ⟨S_, .i1⟩
  | 95 => ⟨S32, .i1⟩
  | 96 => ⟨S32x16, .f32⟩
  | 97 => ⟨S32x16, .i1⟩
  | 98 => ⟨S_, .f32⟩
  | 99 => ⟨S32x16, .f32⟩
  | 100 => ⟨S32x16, .f32⟩
  | 101 => ⟨S32x48, .f32⟩
  | 102 => ⟨S32x16, .f32⟩
  | 103 => ⟨S1x16, .f32⟩
  | 104 => ⟨S32x16, .f32⟩
  | 105 => ⟨S32x16, .f32⟩
  | 106 => ⟨S32x32, .f32⟩
  | 107 => ⟨S32x16, .f32⟩
  | 108 => ⟨S1x16, .f32⟩
  | 109 => ⟨S32x16, .f32⟩
  | 110 => ⟨S32x16, .f32⟩
  | 111 => ⟨S32x16, .f32⟩
  | 112 => ⟨S1x16, .f32⟩
  | 113 => ⟨S32x16, .f32⟩
  | 114 => ⟨S32x16, .f32⟩
  | 115 => ⟨S32x16, .f32⟩
  | 116 => ⟨S1x16, .f32⟩
  | 117 => ⟨S32x16, .f32⟩
  | 118 => ⟨S32x16, .f32⟩
  | 119 => ⟨S32x16, .f32⟩
  | 120 => ⟨S1x16, .f32⟩
  | 121 => ⟨S32x16, .f32⟩
  | 122 => ⟨S32x16, .f32⟩
  | 123 => ⟨S32x1x128, .f32⟩
  | 124 => ⟨S32x128x128, .f32⟩
  | 125 => ⟨S32x1x16, .f32⟩
  | 126 => ⟨S32x128x16, .f32⟩
  | 127 => ⟨S32x128x144, .f32⟩
  | _ => ⟨S32x128, .f32⟩

abbrev hbmTy0_1 (i : Nat) : BufTy := match i % 128 with
  | 0 => ⟨S_, .i32⟩
  | 1 => ⟨S512, .i32⟩
  | 2 => ⟨S512, .i1⟩
  | 3 => ⟨S_, .i32⟩
  | 4 => ⟨S512, .i32⟩
  | 5 => ⟨S512, .i32⟩
  | 6 => ⟨S512, .i32⟩
  | 7 => ⟨S512x1, .i32⟩
  | 8 => ⟨S1, .i32⟩
  | 9 => ⟨S_, .i32⟩
  | 10 => ⟨S512x1, .i32⟩
  | 11 => ⟨S512x1, .i1⟩
  | 12 => ⟨S1x1, .i32⟩
  | 13 => ⟨S512x1, .i32⟩
  | 14 => ⟨S512x1, .i1⟩
  | 15 => ⟨S512x1, .i1⟩
  | 16 => ⟨S_, .i1⟩
  | 17 => ⟨S512, .i1⟩
  | 18 => ⟨S32x512x144, .f32⟩
  | 19 => ⟨S32x512x144, .i1⟩
  | 20 => ⟨S_, .f32⟩
  | 21 => ⟨S32x512x144, .f32⟩
  | 22 => ⟨S32x512x144, .f32⟩
  | 23 => ⟨S32x512x64, .f32⟩
  | 24 => ⟨S1x1x64, .f32⟩
  | 25 => ⟨S32x512x64, .f32⟩
  | 26 => ⟨S32x512x64, .f32⟩
  | 27 => ⟨S_, .f32⟩
  | 28 => ⟨S_, .f32⟩
  | 29 => ⟨S32x512x64, .f32⟩
  | 30 => ⟨S32x512x64, .i1⟩
  | 31 => ⟨S_, .f32⟩
  | 32 => ⟨S32x512x64, .f32⟩
  | 33 => ⟨S32x512x64, .f32⟩
  | 34 => ⟨S32x512x64, .f32⟩
  | 35 => ⟨S32x1x16, .f32⟩
  | 36 => ⟨S32x512x16, .f32⟩
  | 37 => ⟨S32x512x80, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S2048x1, .i32⟩
  | 46 => ⟨S1, .i32⟩
  | 47 => ⟨S_, .i32⟩
  | 48 => ⟨S2048x1, .i32⟩
  | 49 => ⟨S2048x1, .i1⟩
  | 50 => ⟨S1x1, .i32⟩
  | 51 => ⟨S2048x1, .i32⟩
  | 52 => ⟨S2048x1, .i1⟩
  | 53 => ⟨S2048x1, .i1⟩
  | 54 => ⟨S_, .i1⟩
  | 55 => ⟨S2048, .i1⟩
  | 56 => ⟨S32x2048x80, .f32⟩
  | 57 => ⟨S32x2048x80, .i1⟩
  | 58 => ⟨S_, .f32⟩
  | 59 => ⟨S32x2048x80, .f32⟩
  | 60 => ⟨S32x2048x80, .f32⟩
  | 61 => ⟨S32x2048x32, .f32⟩
  | 62 => ⟨S1x1x32, .f32⟩
  | 63 => ⟨S32x2048x32, .f32⟩
  | 64 => ⟨S32x2048x32, .f32⟩
  | 65 => ⟨S_, .f32⟩
  | 66 => ⟨S_, .f32⟩
  | 67 => ⟨S32x2048x32, .f32⟩
  | 68 => ⟨S32x2048x32, .i1⟩
  | 69 => ⟨S_, .f32⟩
  | 70 => ⟨S32x2048x32, .f32⟩
  | 71 => ⟨S32x2048x32, .f32⟩
  | 72 => ⟨S32x2048x32, .f32⟩
  | 73 => ⟨S32x1x16, .f32⟩
  | 74 => ⟨S32x2048x16, .f32⟩
  | 75 => ⟨S32x2048x48, .f32⟩
  | 76 => ⟨S_, .i32⟩
  | 77 => ⟨S8192, .i32⟩
  | 78 => ⟨S8192, .i1⟩
  | 79 => ⟨S_, .i32⟩
  | 80 => ⟨S8192, .i32⟩
  | 81 => ⟨S8192, .i32⟩
  | 82 => ⟨S8192, .i32⟩
  | 83 => ⟨S8192x1, .i32⟩
  | 84 => ⟨S1, .i32⟩
  | 85 => ⟨S_, .i32⟩
  | 86 => ⟨S8192x1, .i32⟩
  | 87 => ⟨S8192x1, .i1⟩
  | 88 => ⟨S1x1, .i32⟩
  | 89 => ⟨S8192x1, .i32⟩
  | 90 => ⟨S8192x1, .i1⟩
  | 91 => ⟨S8192x1, .i1⟩
  | 92 => ⟨S_, .i1⟩
  | 93 => ⟨S8192, .i1⟩
  | 94 => ⟨S32x8192x48, .f32⟩
  | 95 => ⟨S32x8192x48, .i1⟩
  | 96 => ⟨S_, .f32⟩
  | 97 => ⟨S32x8192x48, .f32⟩
  | 98 => ⟨S32x8192x48, .f32⟩
  | 99 => ⟨S32x8192x16, .f32⟩
  | 100 => ⟨S1x1x16, .f32⟩
  | 101 => ⟨S32x8192x16, .f32⟩
  | 102 => ⟨S32x8192x16, .f32⟩
  | 103 => ⟨S_, .f32⟩
  | 104 => ⟨S_, .f32⟩
  | 105 => ⟨S32x8192x16, .f32⟩
  | 106 => ⟨S32x8192x16, .i1⟩
  | 107 => ⟨S_, .f32⟩
  | 108 => ⟨S32x8192x16, .f32⟩
  | 109 => ⟨S32x8192x16, .f32⟩
  | 110 => ⟨S32x8192x16, .f32⟩
  | 111 => ⟨S32x1x16, .f32⟩
  | 112 => ⟨S32x8192x16, .f32⟩
  | 113 => ⟨S32x8192x32, .f32⟩
  | 114 => ⟨S_, .i32⟩
  | 115 => ⟨S32768, .i32⟩
  | 116 => ⟨S32768, .i1⟩
  | 117 => ⟨S_, .i32⟩
  | 118 => ⟨S32768, .i32⟩
  | 119 => ⟨S32768, .i32⟩
  | 120 => ⟨S32768, .i32⟩
  | 121 => ⟨S32768x1, .i32⟩
  | 122 => ⟨S1, .i32⟩
  | 123 => ⟨S_, .i32⟩
  | 124 => ⟨S32768x1, .i32⟩
  | 125 => ⟨S32768x1, .i1⟩
  | 126 => ⟨S1x1, .i32⟩
  | 127 => ⟨S32768x1, .i32⟩
  | _ => ⟨S32x128, .f32⟩

abbrev hbmTy0_2 (i : Nat) : BufTy := match i % 128 with
  | 0 => ⟨S32768x1, .i1⟩
  | 1 => ⟨S32768x1, .i1⟩
  | 2 => ⟨S_, .i1⟩
  | 3 => ⟨S32768, .i1⟩
  | 4 => ⟨S32x32768x32, .f32⟩
  | 5 => ⟨S32x32768x32, .i1⟩
  | 6 => ⟨S_, .f32⟩
  | 7 => ⟨S32x32768x32, .f32⟩
  | 8 => ⟨S32x32768x32, .f32⟩
  | 9 => ⟨S32x32768x8, .f32⟩
  | 10 => ⟨S1x1x8, .f32⟩
  | 11 => ⟨S32x32768x8, .f32⟩
  | 12 => ⟨S32x32768x8, .f32⟩
  | 13 => ⟨S_, .f32⟩
  | 14 => ⟨S_, .f32⟩
  | 15 => ⟨S32x32768x8, .f32⟩
  | 16 => ⟨S32x32768x8, .i1⟩
  | 17 => ⟨S_, .f32⟩
  | 18 => ⟨S32x32768x8, .f32⟩
  | 19 => ⟨S32x32768x8, .f32⟩
  | 20 => ⟨S32x32768x8, .f32⟩
  | 21 => ⟨S32x1x16, .f32⟩
  | 22 => ⟨S32x32768x16, .f32⟩
  | 23 => ⟨S32x32768x24, .f32⟩
  | 24 => ⟨S_, .i32⟩
  | 25 => ⟨S65536, .i32⟩
  | 26 => ⟨S65536, .i1⟩
  | 27 => ⟨S_, .i32⟩
  | 28 => ⟨S65536, .i32⟩
  | 29 => ⟨S65536, .i32⟩
  | 30 => ⟨S65536, .i32⟩
  | 31 => ⟨S65536x1, .i32⟩
  | 32 => ⟨S1, .i32⟩
  | 33 => ⟨S_, .i32⟩
  | 34 => ⟨S65536x1, .i32⟩
  | 35 => ⟨S65536x1, .i1⟩
  | 36 => ⟨S1x1, .i32⟩
  | 37 => ⟨S65536x1, .i32⟩
  | 38 => ⟨S65536x1, .i1⟩
  | 39 => ⟨S65536x1, .i1⟩
  | 40 => ⟨S_, .i1⟩
  | 41 => ⟨S65536, .i1⟩
  | 42 => ⟨S32x65536x24, .f32⟩
  | 43 => ⟨S32x65536x24, .i1⟩
  | 44 => ⟨S_, .f32⟩
  | 45 => ⟨S32x65536x24, .f32⟩
  | 46 => ⟨S32x65536x24, .f32⟩
  | 47 => ⟨S32x65536x1, .f32⟩
  | 48 => ⟨S1x1x1, .f32⟩
  | 49 => ⟨S32x65536x1, .f32⟩
  | 50 => ⟨S32x65536x1, .f32⟩
  | _ => ⟨S32x128, .f32⟩

abbrev hbmTy (i : Nat) : BufTy := match i / 128 with
  | 0 => hbmTy0_0 i
  | 1 => hbmTy0_1 i
  | 2 => hbmTy0_2 i
  | _ => ⟨S32x128, .f32⟩

abbrev bufTy : (tb : Table) → Fin (tcTables nBuf tb) → BufTy
  | .hbm, ⟨i, _⟩ => hbmTy i
  | _, _ => ⟨S32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_call0_c : Ref sig .tc := ⟨.hbm, 32, rfl⟩
abbrev main_call0_v0 : Ref sig .tc := ⟨.hbm, 33, rfl⟩
abbrev main_call0_v1 : Ref sig .tc := ⟨.hbm, 34, rfl⟩
abbrev main_call0_c_0 : Ref sig .tc := ⟨.hbm, 35, rfl⟩
abbrev main_call0_v2 : Ref sig .tc := ⟨.hbm, 36, rfl⟩
abbrev main_call0_v3 : Ref sig .tc := ⟨.hbm, 37, rfl⟩
abbrev main_call0_v4 : Ref sig .tc := ⟨.hbm, 38, rfl⟩
abbrev main_call0_v5 : Ref sig .tc := ⟨.hbm, 39, rfl⟩
abbrev main_call0_c_1 : Ref sig .tc := ⟨.hbm, 40, rfl⟩
abbrev main_call0_c_2 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_v9 : Ref sig .tc := ⟨.hbm, 45, rfl⟩
abbrev main_call0_v10 : Ref sig .tc := ⟨.hbm, 46, rfl⟩
abbrev main_call0_v11 : Ref sig .tc := ⟨.hbm, 47, rfl⟩
abbrev main_call0_c_3 : Ref sig .tc := ⟨.hbm, 48, rfl⟩
abbrev main_call0_v12 : Ref sig .tc := ⟨.hbm, 49, rfl⟩
abbrev main_call0_v13 : Ref sig .tc := ⟨.hbm, 50, rfl⟩
abbrev main_call0_v14 : Ref sig .tc := ⟨.hbm, 51, rfl⟩
abbrev main_call0_cst : Ref sig .tc := ⟨.hbm, 52, rfl⟩
abbrev main_call0_v15 : Ref sig .tc := ⟨.hbm, 53, rfl⟩
abbrev main_v0 : Ref sig .tc := ⟨.hbm, 54, rfl⟩
abbrev main_call1_c : Ref sig .tc := ⟨.hbm, 55, rfl⟩
abbrev main_call1_v0 : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_c_1 : Ref sig .tc := ⟨.hbm, 63, rfl⟩
abbrev main_call1_c_2 : Ref sig .tc := ⟨.hbm, 64, rfl⟩
abbrev main_call1_v6 : Ref sig .tc := ⟨.hbm, 65, rfl⟩
abbrev main_call1_v7 : Ref sig .tc := ⟨.hbm, 66, rfl⟩
abbrev main_call1_v8 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_c_3 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_call1_cst : Ref sig .tc := ⟨.hbm, 75, rfl⟩
abbrev main_call1_v15 : Ref sig .tc := ⟨.hbm, 76, rfl⟩
abbrev main_v1 : Ref sig .tc := ⟨.hbm, 77, rfl⟩
abbrev main_call2_c : Ref sig .tc := ⟨.hbm, 78, rfl⟩
abbrev main_call2_v0 : Ref sig .tc := ⟨.hbm, 79, rfl⟩
abbrev main_call2_v1 : Ref sig .tc := ⟨.hbm, 80, rfl⟩
abbrev main_call2_c_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_c_1 : Ref sig .tc := ⟨.hbm, 86, rfl⟩
abbrev main_call2_c_2 : Ref sig .tc := ⟨.hbm, 87, rfl⟩
abbrev main_call2_v6 : Ref sig .tc := ⟨.hbm, 88, rfl⟩
abbrev main_call2_v7 : Ref sig .tc := ⟨.hbm, 89, rfl⟩
abbrev main_call2_v8 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_c_3 : Ref sig .tc := ⟨.hbm, 94, rfl⟩
abbrev main_call2_v12 : Ref sig .tc := ⟨.hbm, 95, rfl⟩
abbrev main_call2_v13 : Ref sig .tc := ⟨.hbm, 96, rfl⟩
abbrev main_call2_v14 : Ref sig .tc := ⟨.hbm, 97, rfl⟩
abbrev main_call2_cst : Ref sig .tc := ⟨.hbm, 98, rfl⟩
abbrev main_call2_v15 : Ref sig .tc := ⟨.hbm, 99, rfl⟩
abbrev main_v2 : Ref sig .tc := ⟨.hbm, 100, rfl⟩
abbrev main_v3 : Ref sig .tc := ⟨.hbm, 101, rfl⟩
abbrev main_v4 : Ref sig .tc := ⟨.hbm, 102, rfl⟩
abbrev main_v5 : Ref sig .tc := ⟨.hbm, 103, rfl⟩
abbrev main_v6 : Ref sig .tc := ⟨.hbm, 104, rfl⟩
abbrev main_v7 : Ref sig .tc := ⟨.hbm, 105, rfl⟩
abbrev main_v8 : Ref sig .tc := ⟨.hbm, 106, rfl⟩
abbrev main_v9 : Ref sig .tc := ⟨.hbm, 107, rfl⟩
abbrev main_v10 : Ref sig .tc := ⟨.hbm, 108, rfl⟩
abbrev main_v11 : Ref sig .tc := ⟨.hbm, 109, rfl⟩
abbrev main_v12 : Ref sig .tc := ⟨.hbm, 110, rfl⟩
abbrev main_v13 : Ref sig .tc := ⟨.hbm, 111, rfl⟩
abbrev main_v14 : Ref sig .tc := ⟨.hbm, 112, rfl⟩
abbrev main_v15 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_v19 : Ref sig .tc := ⟨.hbm, 117, rfl⟩
abbrev main_v20 : Ref sig .tc := ⟨.hbm, 118, rfl⟩
abbrev main_v21 : Ref sig .tc := ⟨.hbm, 119, rfl⟩
abbrev main_v22 : Ref sig .tc := ⟨.hbm, 120, rfl⟩
abbrev main_v23 : Ref sig .tc := ⟨.hbm, 121, rfl⟩
abbrev main_v24 : Ref sig .tc := ⟨.hbm, 122, rfl⟩
abbrev main_v25 : Ref sig .tc := ⟨.hbm, 123, rfl⟩
abbrev main_v26 : Ref sig .tc := ⟨.hbm, 124, rfl⟩
abbrev main_v27 : Ref sig .tc := ⟨.hbm, 125, rfl⟩
abbrev main_v28 : Ref sig .tc := ⟨.hbm, 126, rfl⟩
abbrev main_v29 : Ref sig .tc := ⟨.hbm, 127, rfl⟩
abbrev main_call3_c : Ref sig .tc := ⟨.hbm, 128, rfl⟩
abbrev main_call3_v0 : Ref sig .tc := ⟨.hbm, 129, rfl⟩
abbrev main_call3_v1 : Ref sig .tc := ⟨.hbm, 130, rfl⟩
abbrev main_call3_c_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_c_1 : Ref sig .tc := ⟨.hbm, 136, rfl⟩
abbrev main_call3_c_2 : Ref sig .tc := ⟨.hbm, 137, rfl⟩
abbrev main_call3_v6 : Ref sig .tc := ⟨.hbm, 138, rfl⟩
abbrev main_call3_v7 : Ref sig .tc := ⟨.hbm, 139, rfl⟩
abbrev main_call3_v8 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_3 : Ref sig .tc := ⟨.hbm, 144, rfl⟩
abbrev main_call3_v12 : Ref sig .tc := ⟨.hbm, 145, rfl⟩
abbrev main_call3_v13 : Ref sig .tc := ⟨.hbm, 146, rfl⟩
abbrev main_call3_v14 : Ref sig .tc := ⟨.hbm, 147, rfl⟩
abbrev main_call3_cst : Ref sig .tc := ⟨.hbm, 148, rfl⟩
abbrev main_call3_v15 : Ref sig .tc := ⟨.hbm, 149, rfl⟩
abbrev main_v30 : Ref sig .tc := ⟨.hbm, 150, rfl⟩
abbrev main_v31 : Ref sig .tc := ⟨.hbm, 151, rfl⟩
abbrev main_v32 : Ref sig .tc := ⟨.hbm, 152, rfl⟩
abbrev main_v33 : Ref sig .tc := ⟨.hbm, 153, rfl⟩
abbrev main_v34 : Ref sig .tc := ⟨.hbm, 154, rfl⟩
abbrev main_cst : Ref sig .tc := ⟨.hbm, 155, rfl⟩
abbrev main_call4_cst : Ref sig .tc := ⟨.hbm, 156, rfl⟩
abbrev main_call4_v0 : Ref sig .tc := ⟨.hbm, 157, rfl⟩
abbrev main_call4_v1 : Ref sig .tc := ⟨.hbm, 158, rfl⟩
abbrev main_call4_v2 : Ref sig .tc := ⟨.hbm, 159, rfl⟩
abbrev main_call4_v3 : Ref sig .tc := ⟨.hbm, 160, rfl⟩
abbrev main_call4_v4 : Ref sig .tc := ⟨.hbm, 161, rfl⟩
abbrev main_v35 : Ref sig .tc := ⟨.hbm, 162, rfl⟩
abbrev main_v36 : Ref sig .tc := ⟨.hbm, 163, rfl⟩
abbrev main_v37 : Ref sig .tc := ⟨.hbm, 164, rfl⟩
abbrev main_v38 : Ref sig .tc := ⟨.hbm, 165, rfl⟩
abbrev main_call5_c : Ref sig .tc := ⟨.hbm, 166, rfl⟩
abbrev main_call5_v0 : Ref sig .tc := ⟨.hbm, 167, rfl⟩
abbrev main_call5_v1 : Ref sig .tc := ⟨.hbm, 168, rfl⟩
abbrev main_call5_c_0 : Ref sig .tc := ⟨.hbm, 169, rfl⟩
abbrev main_call5_v2 : Ref sig .tc := ⟨.hbm, 170, rfl⟩
abbrev main_call5_v3 : Ref sig .tc := ⟨.hbm, 171, rfl⟩
abbrev main_call5_v4 : Ref sig .tc := ⟨.hbm, 172, rfl⟩
abbrev main_call5_v5 : Ref sig .tc := ⟨.hbm, 173, rfl⟩
abbrev main_call5_c_1 : Ref sig .tc := ⟨.hbm, 174, rfl⟩
abbrev main_call5_c_2 : Ref sig .tc := ⟨.hbm, 175, rfl⟩
abbrev main_call5_v6 : Ref sig .tc := ⟨.hbm, 176, rfl⟩
abbrev main_call5_v7 : Ref sig .tc := ⟨.hbm, 177, rfl⟩
abbrev main_call5_v8 : Ref sig .tc := ⟨.hbm, 178, rfl⟩
abbrev main_call5_v9 : Ref sig .tc := ⟨.hbm, 179, rfl⟩
abbrev main_call5_v10 : Ref sig .tc := ⟨.hbm, 180, rfl⟩
abbrev main_call5_v11 : Ref sig .tc := ⟨.hbm, 181, rfl⟩
abbrev main_call5_c_3 : Ref sig .tc := ⟨.hbm, 182, rfl⟩
abbrev main_call5_v12 : Ref sig .tc := ⟨.hbm, 183, rfl⟩
abbrev main_call5_v13 : Ref sig .tc := ⟨.hbm, 184, rfl⟩
abbrev main_call5_v14 : Ref sig .tc := ⟨.hbm, 185, rfl⟩
abbrev main_call5_cst : Ref sig .tc := ⟨.hbm, 186, rfl⟩
abbrev main_call5_v15 : Ref sig .tc := ⟨.hbm, 187, rfl⟩
abbrev main_v39 : Ref sig .tc := ⟨.hbm, 188, rfl⟩
abbrev main_v40 : Ref sig .tc := ⟨.hbm, 189, rfl⟩
abbrev main_v41 : Ref sig .tc := ⟨.hbm, 190, rfl⟩
abbrev main_v42 : Ref sig .tc := ⟨.hbm, 191, rfl⟩
abbrev main_v43 : Ref sig .tc := ⟨.hbm, 192, rfl⟩
abbrev main_cst_0 : Ref sig .tc := ⟨.hbm, 193, rfl⟩
abbrev main_call6_cst : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v44 : Ref sig .tc := ⟨.hbm, 200, rfl⟩
abbrev main_v45 : Ref sig .tc := ⟨.hbm, 201, rfl⟩
abbrev main_v46 : Ref sig .tc := ⟨.hbm, 202, rfl⟩
abbrev main_v47 : Ref sig .tc := ⟨.hbm, 203, rfl⟩
abbrev main_call7_c : Ref sig .tc := ⟨.hbm, 204, rfl⟩
abbrev main_call7_v0 : Ref sig .tc := ⟨.hbm, 205, rfl⟩
abbrev main_call7_v1 : Ref sig .tc := ⟨.hbm, 206, rfl⟩
abbrev main_call7_c_0 : Ref sig .tc := ⟨.hbm, 207, rfl⟩
abbrev main_call7_v2 : Ref sig .tc := ⟨.hbm, 208, rfl⟩
abbrev main_call7_v3 : Ref sig .tc := ⟨.hbm, 209, rfl⟩
abbrev main_call7_v4 : Ref sig .tc := ⟨.hbm, 210, rfl⟩
abbrev main_call7_v5 : Ref sig .tc := ⟨.hbm, 211, rfl⟩
abbrev main_call7_c_1 : Ref sig .tc := ⟨.hbm, 212, rfl⟩
abbrev main_call7_c_2 : Ref sig .tc := ⟨.hbm, 213, rfl⟩
abbrev main_call7_v6 : Ref sig .tc := ⟨.hbm, 214, rfl⟩
abbrev main_call7_v7 : Ref sig .tc := ⟨.hbm, 215, rfl⟩
abbrev main_call7_v8 : Ref sig .tc := ⟨.hbm, 216, rfl⟩
abbrev main_call7_v9 : Ref sig .tc := ⟨.hbm, 217, rfl⟩
abbrev main_call7_v10 : Ref sig .tc := ⟨.hbm, 218, rfl⟩
abbrev main_call7_v11 : Ref sig .tc := ⟨.hbm, 219, rfl⟩
abbrev main_call7_c_3 : Ref sig .tc := ⟨.hbm, 220, rfl⟩
abbrev main_call7_v12 : Ref sig .tc := ⟨.hbm, 221, rfl⟩
abbrev main_call7_v13 : Ref sig .tc := ⟨.hbm, 222, rfl⟩
abbrev main_call7_v14 : Ref sig .tc := ⟨.hbm, 223, rfl⟩
abbrev main_call7_cst : Ref sig .tc := ⟨.hbm, 224, rfl⟩
abbrev main_call7_v15 : Ref sig .tc := ⟨.hbm, 225, rfl⟩
abbrev main_v48 : Ref sig .tc := ⟨.hbm, 226, rfl⟩
abbrev main_v49 : Ref sig .tc := ⟨.hbm, 227, rfl⟩
abbrev main_v50 : Ref sig .tc := ⟨.hbm, 228, rfl⟩
abbrev main_v51 : Ref sig .tc := ⟨.hbm, 229, rfl⟩
abbrev main_v52 : Ref sig .tc := ⟨.hbm, 230, rfl⟩
abbrev main_cst_1 : Ref sig .tc := ⟨.hbm, 231, rfl⟩
abbrev main_call8_cst : Ref sig .tc := ⟨.hbm, 232, rfl⟩
abbrev main_call8_v0 : Ref sig .tc := ⟨.hbm, 233, rfl⟩
abbrev main_call8_v1 : Ref sig .tc := ⟨.hbm, 234, rfl⟩
abbrev main_call8_v2 : Ref sig .tc := ⟨.hbm, 235, rfl⟩
abbrev main_call8_v3 : Ref sig .tc := ⟨.hbm, 236, rfl⟩
abbrev main_call8_v4 : Ref sig .tc := ⟨.hbm, 237, rfl⟩
abbrev main_v53 : Ref sig .tc := ⟨.hbm, 238, rfl⟩
abbrev main_v54 : Ref sig .tc := ⟨.hbm, 239, rfl⟩
abbrev main_v55 : Ref sig .tc := ⟨.hbm, 240, rfl⟩
abbrev main_v56 : Ref sig .tc := ⟨.hbm, 241, rfl⟩
abbrev main_call9_c : Ref sig .tc := ⟨.hbm, 242, rfl⟩
abbrev main_call9_v0 : Ref sig .tc := ⟨.hbm, 243, rfl⟩
abbrev main_call9_v1 : Ref sig .tc := ⟨.hbm, 244, rfl⟩
abbrev main_call9_c_0 : Ref sig .tc := ⟨.hbm, 245, rfl⟩
abbrev main_call9_v2 : Ref sig .tc := ⟨.hbm, 246, rfl⟩
abbrev main_call9_v3 : Ref sig .tc := ⟨.hbm, 247, rfl⟩
abbrev main_call9_v4 : Ref sig .tc := ⟨.hbm, 248, rfl⟩
abbrev main_call9_v5 : Ref sig .tc := ⟨.hbm, 249, rfl⟩
abbrev main_call9_c_1 : Ref sig .tc := ⟨.hbm, 250, rfl⟩
abbrev main_call9_c_2 : Ref sig .tc := ⟨.hbm, 251, rfl⟩
abbrev main_call9_v6 : Ref sig .tc := ⟨.hbm, 252, rfl⟩
abbrev main_call9_v7 : Ref sig .tc := ⟨.hbm, 253, rfl⟩
abbrev main_call9_v8 : Ref sig .tc := ⟨.hbm, 254, rfl⟩
abbrev main_call9_v9 : Ref sig .tc := ⟨.hbm, 255, rfl⟩
abbrev main_call9_v10 : Ref sig .tc := ⟨.hbm, 256, rfl⟩
abbrev main_call9_v11 : Ref sig .tc := ⟨.hbm, 257, rfl⟩
abbrev main_call9_c_3 : Ref sig .tc := ⟨.hbm, 258, rfl⟩
abbrev main_call9_v12 : Ref sig .tc := ⟨.hbm, 259, rfl⟩
abbrev main_call9_v13 : Ref sig .tc := ⟨.hbm, 260, rfl⟩
abbrev main_call9_v14 : Ref sig .tc := ⟨.hbm, 261, rfl⟩
abbrev main_call9_cst : Ref sig .tc := ⟨.hbm, 262, rfl⟩
abbrev main_call9_v15 : Ref sig .tc := ⟨.hbm, 263, rfl⟩
abbrev main_v57 : Ref sig .tc := ⟨.hbm, 264, rfl⟩
abbrev main_v58 : Ref sig .tc := ⟨.hbm, 265, rfl⟩
abbrev main_v59 : Ref sig .tc := ⟨.hbm, 266, rfl⟩
abbrev main_v60 : Ref sig .tc := ⟨.hbm, 267, rfl⟩
abbrev main_v61 : Ref sig .tc := ⟨.hbm, 268, rfl⟩
abbrev main_cst_2 : Ref sig .tc := ⟨.hbm, 269, rfl⟩
abbrev main_call10_cst : Ref sig .tc := ⟨.hbm, 270, rfl⟩
abbrev main_call10_v0 : Ref sig .tc := ⟨.hbm, 271, rfl⟩
abbrev main_call10_v1 : Ref sig .tc := ⟨.hbm, 272, rfl⟩
abbrev main_call10_v2 : Ref sig .tc := ⟨.hbm, 273, rfl⟩
abbrev main_call10_v3 : Ref sig .tc := ⟨.hbm, 274, rfl⟩
abbrev main_call10_v4 : Ref sig .tc := ⟨.hbm, 275, rfl⟩
abbrev main_v62 : Ref sig .tc := ⟨.hbm, 276, rfl⟩
abbrev main_v63 : Ref sig .tc := ⟨.hbm, 277, rfl⟩
abbrev main_v64 : Ref sig .tc := ⟨.hbm, 278, rfl⟩
abbrev main_v65 : Ref sig .tc := ⟨.hbm, 279, rfl⟩
abbrev main_call11_c : Ref sig .tc := ⟨.hbm, 280, rfl⟩
abbrev main_call11_v0 : Ref sig .tc := ⟨.hbm, 281, rfl⟩
abbrev main_call11_v1 : Ref sig .tc := ⟨.hbm, 282, rfl⟩
abbrev main_call11_c_0 : Ref sig .tc := ⟨.hbm, 283, rfl⟩
abbrev main_call11_v2 : Ref sig .tc := ⟨.hbm, 284, rfl⟩
abbrev main_call11_v3 : Ref sig .tc := ⟨.hbm, 285, rfl⟩
abbrev main_call11_v4 : Ref sig .tc := ⟨.hbm, 286, rfl⟩
abbrev main_call11_v5 : Ref sig .tc := ⟨.hbm, 287, rfl⟩
abbrev main_call11_c_1 : Ref sig .tc := ⟨.hbm, 288, rfl⟩
abbrev main_call11_c_2 : Ref sig .tc := ⟨.hbm, 289, rfl⟩
abbrev main_call11_v6 : Ref sig .tc := ⟨.hbm, 290, rfl⟩
abbrev main_call11_v7 : Ref sig .tc := ⟨.hbm, 291, rfl⟩
abbrev main_call11_v8 : Ref sig .tc := ⟨.hbm, 292, rfl⟩
abbrev main_call11_v9 : Ref sig .tc := ⟨.hbm, 293, rfl⟩
abbrev main_call11_v10 : Ref sig .tc := ⟨.hbm, 294, rfl⟩
abbrev main_call11_v11 : Ref sig .tc := ⟨.hbm, 295, rfl⟩
abbrev main_call11_c_3 : Ref sig .tc := ⟨.hbm, 296, rfl⟩
abbrev main_call11_v12 : Ref sig .tc := ⟨.hbm, 297, rfl⟩
abbrev main_call11_v13 : Ref sig .tc := ⟨.hbm, 298, rfl⟩
abbrev main_call11_v14 : Ref sig .tc := ⟨.hbm, 299, rfl⟩
abbrev main_call11_cst : Ref sig .tc := ⟨.hbm, 300, rfl⟩
abbrev main_call11_v15 : Ref sig .tc := ⟨.hbm, 301, rfl⟩
abbrev main_v66 : Ref sig .tc := ⟨.hbm, 302, rfl⟩
abbrev main_v67 : Ref sig .tc := ⟨.hbm, 303, rfl⟩
abbrev main_v68 : Ref sig .tc := ⟨.hbm, 304, rfl⟩
abbrev main_v69 : Ref sig .tc := ⟨.hbm, 305, rfl⟩
abbrev main_v70 : Ref sig .tc := ⟨.hbm, 306, rfl⟩

abbrev nD : Nat := 1
abbrev τ : Topo := Topo.v7x

variable {F : FTy → Type} [FloatOps F]
-- ==== Proof.IdealSetup.lean ====
/- The launch of `KernelIdeal` around its one region, for a body that moves its own operands: `@main` as region and later line,
   the arguments kept by both, the buffers the body is handed, and the invariant spelled buffer by buffer. -/
module

public import proofs.«01_k».proof.Proof.Gen.KernelIdeal.Frame

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- A buffer which is neither the last result nor an array of the pipeline ends as the region found it: the one line
    after the region writes the result only. -/
theorem tail_keeps (dats : (p : Fin 1) → (c : Dev nD) → Dat τ (Elt F) Unit ℕ (Pipeline.UD sig nD τ) ℕ (cfgs p) c) (c : Dev nD)
    (b : Ref sig .tc) (hb : b ≠ main_v13) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.unary_writes, StableHlo.reshape_writes, Finset.mem_singleton]
      exact StableHlo.devRef_ne_of_ne hb)),
    Pipeline.withArrays_of_ne _ c (V0 m c) _ b hw]

set_option maxHeartbeats 1920000 in
/-- After a run of the region and the line behind it every argument array is as launched. -/
theorem args_kept (dats : (p : Fin 1) → (c : Dev nD) → Dat τ (Elt F) Unit ℕ (Pipeline.UD sig nD τ) ℕ (cfgs p) c)
    (r : PUnit × MemSt nD τ sig (Elt F))
    (h : Pipeline.FramePost cfgs dats 0 (Pipeline.afterTail₀ cfgs dats 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31) :=
  ⟨((h c).2 main_arg0 (Pipeline.mem_restRefs_of main_arg0 (by decide) (by decide))).trans
     ((tail_keeps m dats c main_arg0 (by decide) (by decide)).trans (V_main_arg0 m c)),
   ((h c).2 main_arg1 (Pipeline.mem_restRefs_of main_arg1 (by decide) (by decide))).trans
     ((tail_keeps m dats c main_arg1 (by decide) (by decide)).trans (V_main_arg1 m c)),
   ((h c).2 main_arg2 (Pipeline.mem_restRefs_of main_arg2 (by decide) (by decide))).trans
     ((tail_keeps m dats c main_arg2 (by decide) (by decide)).trans (V_main_arg2 m c)),
   ((h c).2 main_arg3 (Pipeline.mem_restRefs_of main_arg3 (by decide) (by decide))).trans
     ((tail_keeps m dats c main_arg3 (by decide) (by decide)).trans (V_main_arg3 m c)),
   ((h c).2 main_arg4 (Pipeline.mem_restRefs_of main_arg4 (by decide) (by decide))).trans
     ((tail_keeps m dats c main_arg4 (by decide) (by decide)).trans (V_main_arg4 m c)),
   ((h c).2 main_arg5 (Pipeline.mem_restRefs_of main_arg5 (by decide) (by decide))).trans
     ((tail_keeps m dats c main_arg5 (by decide) (by decide)).trans (V_main_arg5 m c)),
   ((h c).2 main_arg6 (Pipeline.mem_restRefs_of main_arg6 (by decide) (by decide))).trans
     ((tail_keeps m dats c main_arg6 (by decide) (by decide)).trans (V_main_arg6 m c)),
   ((h c).2 main_arg7 (Pipeline.mem_restRefs_of main_arg7 (by decide) (by decide))).trans
     ((tail_keeps m dats c main_arg7 (by decide) (by decide)).trans (V_main_arg7 m c)),
   ((h c).2 main_arg8 (Pipeline.mem_restRefs_of main_arg8 (by decide) (by decide))).trans
     ((tail_keeps m dats c main_arg8 (by decide) (by decide)).trans (V_main_arg8 m c)),
   ((h c).2 main_arg9 (Pipeline.mem_restRefs_of main_arg9 (by decide) (by decide))).trans
     ((tail_keeps m dats c main_arg9 (by decide) (by decide)).trans (V_main_arg9 m c)),
   ((h c).2 main_arg10 (Pipeline.mem_restRefs_of main_arg10 (by decide) (by decide))).trans
     ((tail_keeps m dats c main_arg10 (by decide) (by decide)).trans (V_main_arg10 m c)),
   ((h c).2 main_arg11 (Pipeline.mem_restRefs_of main_arg11 (by decide) (by decide))).trans
     ((tail_keeps m dats c main_arg11 (by decide) (by decide)).trans (V_main_arg11 m c)),
   ((h c).2 main_arg12 (Pipeline.mem_restRefs_of main_arg12 (by decide) (by decide))).trans
     ((tail_keeps m dats c main_arg12 (by decide) (by decide)).trans (V_main_arg12 m c)),
   ((h c).2 main_arg13 (Pipeline.mem_restRefs_of main_arg13 (by decide) (by decide))).trans
     ((tail_keeps m dats c main_arg13 (by decide) (by decide)).trans (V_main_arg13 m c)),
   ((h c).2 main_arg14 (Pipeline.mem_restRefs_of main_arg14 (by decide) (by decide))).trans
     ((tail_keeps m dats c main_arg14 (by decide) (by decide)).trans (V_main_arg14 m c)),
   ((h c).2 main_arg15 (Pipeline.mem_restRefs_of main_arg15 (by decide) (by decide))).trans
     ((tail_keeps m dats c main_arg15 (by decide) (by decide)).trans (V_main_arg15 m c)),
   ((h c).2 main_arg16 (Pipeline.mem_restRefs_of main_arg16 (by decide) (by decide))).trans
     ((tail_keeps m dats c main_arg16 (by decide) (by decide)).trans (V_main_arg16 m c)),
   ((h c).2 main_arg17 (Pipeline.mem_restRefs_of main_arg17 (by decide) (by decide))).trans
     ((tail_keeps m dats c main_arg17 (by decide) (by decide)).trans (V_main_arg17 m c)),
   ((h c).2 main_arg18 (Pipeline.mem_restRefs_of main_arg18 (by decide) (by decide))).trans
     ((tail_keeps m dats c main_arg18 (by decide) (by decide)).trans (V_main_arg18 m c)),
   ((h c).2 main_arg19 (Pipeline.mem_restRefs_of main_arg19 (by decide) (by decide))).trans
     ((tail_keeps m dats c main_arg19 (by decide) (by decide)).trans (V_main_arg19 m c)),
   ((h c).2 main_arg20 (Pipeline.mem_restRefs_of main_arg20 (by decide) (by decide))).trans
     ((tail_keeps m dats c main_arg20 (by decide) (by decide)).trans (V_main_arg20 m c)),
   ((h c).2 main_arg21 (Pipeline.mem_restRefs_of main_arg21 (by decide) (by decide))).trans
     ((tail_keeps m dats c main_arg21 (by decide) (by decide)).trans (V_main_arg21 m c)),
   ((h c).2 main_arg22 (Pipeline.mem_restRefs_of main_arg22 (by decide) (by decide))).trans
     ((tail_keeps m dats c main_arg22 (by decide) (by decide)).trans (V_main_arg22 m c)),
   ((h c).2 main_arg23 (Pipeline.mem_restRefs_of main_arg23 (by decide) (by decide))).trans
     ((tail_keeps m dats c main_arg23 (by decide) (by decide)).trans (V_main_arg23 m c)),
   ((h c).2 main_arg24 (Pipeline.mem_restRefs_of main_arg24 (by decide) (by decide))).trans
     ((tail_keeps m dats c main_arg24 (by decide) (by decide)).trans (V_main_arg24 m c)),
   ((h c).2 main_arg25 (Pipeline.mem_restRefs_of main_arg25 (by decide) (by decide))).trans
     ((tail_keeps m dats c main_arg25 (by decide) (by decide)).trans (V_main_arg25 m c)),
   ((h c).2 main_arg26 (Pipeline.mem_restRefs_of main_arg26 (by decide) (by decide))).trans
     ((tail_keeps m dats c main_arg26 (by decide) (by decide)).trans (V_main_arg26 m c)),
   ((h c).2 main_arg27 (Pipeline.mem_restRefs_of main_arg27 (by decide) (by decide))).trans
     ((tail_keeps m dats c main_arg27 (by decide) (by decide)).trans (V_main_arg27 m c)),
   ((h c).2 main_arg28 (Pipeline.mem_restRefs_of main_arg28 (by decide) (by decide))).trans
     ((tail_keeps m dats c main_arg28 (by decide) (by decide)).trans (V_main_arg28 m c)),
   ((h c).2 main_arg29 (Pipeline.mem_restRefs_of main_arg29 (by decide) (by decide))).trans
     ((tail_keeps m dats c main_arg29 (by decide) (by decide)).trans (V_main_arg29 m c)),
   ((h c).2 main_arg30 (Pipeline.mem_restRefs_of main_arg30 (by decide) (by decide))).trans
     ((tail_keeps m dats c main_arg30 (by decide) (by decide)).trans (V_main_arg30 m c)),
   ((h c).2 main_arg31 (Pipeline.mem_restRefs_of main_arg31 (by decide) (by decide))).trans
     ((tail_keeps m dats c main_arg31 (by decide) (by decide)).trans (V_main_arg31 m c))⟩

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at every point — by arithmetic of the point. -/
theorem hcond0_0 : ∀ t : Fin cfg0.N, cond0_0 (grid0.coords t) :=
  (fun t => by
    have ht : t.val < 1 := Nat.lt_of_lt_of_eq t.isLt N_0
    have e0 : (grid0.coords t 0).val = t.val / 1 % 1 := Pipeline.Grid.coords_val t 0 (by decide) rfl
    simp only [cond0_0, e0]
    word_cmp
   : ∀ t : Fin grid0.N, cond0_0 (grid0.coords t))

/-! ## The kernel body on any staging memrefs: a subtype the run finds -/

/-- One staging buffer of output window 0, through which its contents are stated (`View.read_writes_of_cover`: the
    choice does not matter). -/
abbrev VO0_0 : View sig .tc .vmem S32x512x128 .f32 := (Memref.whole cc0_stg0_0 : Memref sig .tc .vmem S32x512x128 .f32).view
/-- Each window's current staging memref at point `t`, spelled as the pipeline passes it (`bodyAt0`), and its wholeness. -/
abbrev ms0_0 (t : Fin cfg0.N) : Memref sig .tc .vmem S32x512x128 .f32 := win0_0.stage (cfg0.slots t 0)
abbrev hs0_0 (t : Fin cfg0.N) : (ms0_0 t).IsWhole := hstage0_0 ((cfg0.slots t 0).cast nbuf0_0)
/-- The scratch operands: whole scoped buffers of the kernel's own, passed beside the windows. -/
abbrev scM0_0 : Memref sig .tc .vmem S32 .i32 := Memref.whole cc0_scratch0
abbrev scM0_1 : Memref sig .tc .vmem S32 .i32 := Memref.whole cc0_scratch1
abbrev scM0_2 : Memref sig .tc .vmem S32 .i32 := Memref.whole cc0_scratch2
abbrev scM0_3 : Memref sig .tc .vmem S16 .f32 := Memref.whole cc0_scratch3
abbrev scM0_4 : Memref sig .tc .vmem S16 .f32 := Memref.whole cc0_scratch4
abbrev scM0_5 : Memref sig .tc .vmem S16 .f32 := Memref.whole cc0_scratch5
abbrev scM0_6 : Memref sig .tc .vmem S16 .f32 := Memref.whole cc0_scratch6
abbrev scM0_7 : Memref sig .tc .vmem S16 .f32 := Memref.whole cc0_scratch7
abbrev scM0_8 : Memref sig .tc .vmem S64 .f32 := Memref.whole cc0_scratch8
abbrev scM0_9 : Memref sig .tc .vmem S32 .f32 := Memref.whole cc0_scratch9
abbrev scM0_10 : Memref sig .tc .vmem S16 .f32 := Memref.whole cc0_scratch10
abbrev scM0_11 : Memref sig .tc .vmem S8 .f32 := Memref.whole cc0_scratch11
abbrev scM0_12 : Memref sig .tc .vmem S1 .f32 := Memref.whole cc0_scratch12
abbrev scM0_13 : Memref sig .tc .vmem S24 .f32 := Memref.whole cc0_scratch13
abbrev scM0_14 : Memref sig .tc .vmem S32x128 .f32 := Memref.whole cc0_scratch14
abbrev scM0_15 : Memref sig .tc .vmem S16x64 .f32 := Memref.whole cc0_scratch15
abbrev scM0_16 : Memref sig .tc .vmem S16x128 .f32 := Memref.whole cc0_scratch16
abbrev scM0_17 : Memref sig .tc .vmem S16x256 .f32 := Memref.whole cc0_scratch17
abbrev scM0_18 : Memref sig .tc .vmem S16x16 .f32 := Memref.whole cc0_scratch18
abbrev scM0_19 : Memref sig .tc .vmem S16x32 .f32 := Memref.whole cc0_scratch19
abbrev scM0_20 : Memref sig .tc .vmem S16x48 .f32 := Memref.whole cc0_scratch20
abbrev scM0_21 : Memref sig .tc .vmem S16x48 .f32 := Memref.whole cc0_scratch21
abbrev scM0_22 : Memref sig .tc .vmem S16x48 .f32 := Memref.whole cc0_scratch22
abbrev scM0_23 : Memref sig .tc .vmem S64x144 .f32 := Memref.whole cc0_scratch23
abbrev scM0_24 : Memref sig .tc .vmem S32x80 .f32 := Memref.whole cc0_scratch24
abbrev scM0_25 : Memref sig .tc .vmem S16x48 .f32 := Memref.whole cc0_scratch25
abbrev scM0_26 : Memref sig .tc .vmem S8x32 .f32 := Memref.whole cc0_scratch26
abbrev scM0_27 : Memref sig .tc .vmem S32x1 .f32 := Memref.whole cc0_scratch27
/-- The operands left in HBM that the body copies into scratch itself, whole. -/
abbrev hbM0_0 : Memref sig .tc .hbm S32 .i32 := Memref.whole main_arg1
abbrev hbM0_1 : Memref sig .tc .hbm S32 .i32 := Memref.whole main_arg2
abbrev hbM0_2 : Memref sig .tc .hbm S32 .i32 := Memref.whole main_arg3
abbrev hbM0_3 : Memref sig .tc .hbm S16 .f32 := Memref.whole main_arg8
abbrev hbM0_4 : Memref sig .tc .hbm S16 .f32 := Memref.whole main_arg10
abbrev hbM0_5 : Memref sig .tc .hbm S16 .f32 := Memref.whole main_arg12
abbrev hbM0_6 : Memref sig .tc .hbm S16 .f32 := Memref.whole main_arg14
abbrev hbM0_7 : Memref sig .tc .hbm S16 .f32 := Memref.whole main_arg16
abbrev hbM0_8 : Memref sig .tc .hbm S64 .f32 := Memref.whole main_arg18
abbrev hbM0_9 : Memref sig .tc .hbm S32 .f32 := Memref.whole main_arg20
abbrev hbM0_10 : Memref sig .tc .hbm S16 .f32 := Memref.whole main_arg22
abbrev hbM0_11 : Memref sig .tc .hbm S8 .f32 := Memref.whole main_arg24
abbrev hbM0_12 : Memref sig .tc .hbm S1 .f32 := Memref.whole main_arg26
abbrev hbM0_13 : Memref sig .tc .hbm S24 .f32 := Memref.whole main_v0
abbrev hbM0_14 : Memref sig .tc .hbm S32x128 .f32 := Memref.whole main_arg0
abbrev hbM0_15 : Memref sig .tc .hbm S16x64 .f32 := Memref.whole main_v1
abbrev hbM0_16 : Memref sig .tc .hbm S16x128 .f32 := Memref.whole main_v2
abbrev hbM0_17 : Memref sig .tc .hbm S16x256 .f32 := Memref.whole main_v3
abbrev hbM0_18 : Memref sig .tc .hbm S16x16 .f32 := Memref.whole main_arg7
abbrev hbM0_19 : Memref sig .tc .hbm S16x32 .f32 := Memref.whole main_v4
abbrev hbM0_20 : Memref sig .tc .hbm S16x48 .f32 := Memref.whole main_v5
abbrev hbM0_21 : Memref sig .tc .hbm S16x48 .f32 := Memref.whole main_v6
abbrev hbM0_22 : Memref sig .tc .hbm S16x48 .f32 := Memref.whole main_v7
abbrev hbM0_23 : Memref sig .tc .hbm S64x144 .f32 := Memref.whole main_v8
abbrev hbM0_24 : Memref sig .tc .hbm S32x80 .f32 := Memref.whole main_v9
abbrev hbM0_25 : Memref sig .tc .hbm S16x48 .f32 := Memref.whole main_v10
abbrev hbM0_26 : Memref sig .tc .hbm S8x32 .f32 := Memref.whole main_v11
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 27 → SemLoc sig := fun j => (![SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23, SemLoc.dma 24, SemLoc.dma 25, SemLoc.dma 26, SemLoc.dma 27] : Fin 27 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) := by
  rw [Pipeline.ownSems0_eq_of_list c osem0 [0, 1, 2, 3, 4, 5, 6, 7, 8, 9, 10, 11, 12, 13, 14, 15, 16, 17, 18, 19, 20, 21, 22, 23, 24, 25, 26] (by decide) (by decide)]; rfl
/-- The HBM operands the body moves, as references: unscoped, no window's array (`Pipeline.restRefs`). -/
def H0 : Finset (Ref sig .tc) := {main_arg1, main_arg2, main_arg3, main_arg8, main_arg10, main_arg12, main_arg14, main_arg16, main_arg18, main_arg20, main_arg22, main_arg24, main_arg26, main_v0, main_arg0, main_v1, main_v2, main_v3, main_arg7, main_v4, main_v5, main_v6, main_v7, main_v8, main_v9, main_v10, main_v11}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl
    all_goals intro b hb; simp only [H0, Finset.mem_insert, Finset.mem_singleton] at hb
    all_goals rcases hb with rfl | rfl | rfl | rfl | rfl | rfl | rfl | rfl | rfl | rfl | rfl | rfl | rfl | rfl | rfl | rfl | rfl | rfl | rfl | rfl | rfl | rfl | rfl | rfl | rfl | rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_arg1) ∗ hbPt0 c hbM0_1 (V m c main_arg2) ∗ hbPt0 c hbM0_2 (V m c main_arg3) ∗ hbPt0 c hbM0_3 (V m c main_arg8) ∗ hbPt0 c hbM0_4 (V m c main_arg10) ∗ hbPt0 c hbM0_5 (V m c main_arg12) ∗ hbPt0 c hbM0_6 (V m c main_arg14) ∗ hbPt0 c hbM0_7 (V m c main_arg16) ∗ hbPt0 c hbM0_8 (V m c main_arg18) ∗ hbPt0 c hbM0_9 (V m c main_arg20) ∗ hbPt0 c hbM0_10 (V m c main_arg22) ∗ hbPt0 c hbM0_11 (V m c main_arg24) ∗ hbPt0 c hbM0_12 (V m c main_arg26) ∗ hbPt0 c hbM0_13 (V m c main_v0) ∗ hbPt0 c hbM0_14 (V m c main_arg0) ∗ hbPt0 c hbM0_15 (V m c main_v1) ∗ hbPt0 c hbM0_16 (V m c main_v2) ∗ hbPt0 c hbM0_17 (V m c main_v3) ∗ hbPt0 c hbM0_18 (V m c main_arg7) ∗ hbPt0 c hbM0_19 (V m c main_v4) ∗ hbPt0 c hbM0_20 (V m c main_v5) ∗ hbPt0 c hbM0_21 (V m c main_v6) ∗ hbPt0 c hbM0_22 (V m c main_v7) ∗ hbPt0 c hbM0_23 (V m c main_v8) ∗ hbPt0 c hbM0_24 (V m c main_v9) ∗ hbPt0 c hbM0_25 (V m c main_v10) ∗ hbPt0 c hbM0_26 (V m c main_v11)) := by
  rw [BI.bigSep_eq_bigSepL_of_eq [main_arg1, main_arg2, main_arg3, main_arg8, main_arg10, main_arg12, main_arg14, main_arg16, main_arg18, main_arg20, main_arg22, main_arg24, main_arg26, main_v0, main_arg0, main_v1, main_v2, main_v3, main_arg7, main_v4, main_v5, main_v6, main_v7, main_v8, main_v9, main_v10, main_v11] (by decide) (by decide)]; rfl

set_option maxHeartbeats 2000000 in
/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d) ∗ (∃ d, owns (c : Thread nD τ) scM0_7 fullShare d) ∗ (∃ d, owns (c : Thread nD τ) scM0_8 fullShare d) ∗ (∃ d, owns (c : Thread nD τ) scM0_9 fullShare d) ∗ (∃ d, owns (c : Thread nD τ) scM0_10 fullShare d) ∗ (∃ d, owns (c : Thread nD τ) scM0_11 fullShare d) ∗ (∃ d, owns (c : Thread nD τ) scM0_12 fullShare d) ∗ (∃ d, owns (c : Thread nD τ) scM0_13 fullShare d) ∗ (∃ d, owns (c : Thread nD τ) scM0_14 fullShare d) ∗ (∃ d, owns (c : Thread nD τ) scM0_15 fullShare d) ∗ (∃ d, owns (c : Thread nD τ) scM0_16 fullShare d) ∗ (∃ d, owns (c : Thread nD τ) scM0_17 fullShare d) ∗ (∃ d, owns (c : Thread nD τ) scM0_18 fullShare d) ∗ (∃ d, owns (c : Thread nD τ) scM0_19 fullShare d) ∗ (∃ d, owns (c : Thread nD τ) scM0_20 fullShare d) ∗ (∃ d, owns (c : Thread nD τ) scM0_21 fullShare d) ∗ (∃ d, owns (c : Thread nD τ) scM0_22 fullShare d) ∗ (∃ d, owns (c : Thread nD τ) scM0_23 fullShare d) ∗ (∃ d, owns (c : Thread nD τ) scM0_24 fullShare d) ∗ (∃ d, owns (c : Thread nD τ) scM0_25 fullShare d) ∗ (∃ d, owns (c : Thread nD τ) scM0_26 fullShare d) ∗ (∃ d, owns (c : Thread nD τ) scM0_27 fullShare d)) ∗ (∃ r, prngReg c r) ∗ iprop(semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0) ∗ iprop(hbPt0 c hbM0_0 (V m c main_arg1) ∗ hbPt0 c hbM0_1 (V m c main_arg2) ∗ hbPt0 c hbM0_2 (V m c main_arg3) ∗ hbPt0 c hbM0_3 (V m c main_arg8) ∗ hbPt0 c hbM0_4 (V m c main_arg10) ∗ hbPt0 c hbM0_5 (V m c main_arg12) ∗ hbPt0 c hbM0_6 (V m c main_arg14) ∗ hbPt0 c hbM0_7 (V m c main_arg16) ∗ hbPt0 c hbM0_8 (V m c main_arg18) ∗ hbPt0 c hbM0_9 (V m c main_arg20) ∗ hbPt0 c hbM0_10 (V m c main_arg22) ∗ hbPt0 c hbM0_11 (V m c main_arg24) ∗ hbPt0 c hbM0_12 (V m c main_arg26) ∗ hbPt0 c hbM0_13 (V m c main_v0) ∗ hbPt0 c hbM0_14 (V m c main_arg0) ∗ hbPt0 c hbM0_15 (V m c main_v1) ∗ hbPt0 c hbM0_16 (V m c main_v2) ∗ hbPt0 c hbM0_17 (V m c main_v3) ∗ hbPt0 c hbM0_18 (V m c main_arg7) ∗ hbPt0 c hbM0_19 (V m c main_v4) ∗ hbPt0 c hbM0_20 (V m c main_v5) ∗ hbPt0 c hbM0_21 (V m c main_v6) ∗ hbPt0 c hbM0_22 (V m c main_v7) ∗ hbPt0 c hbM0_23 (V m c main_v8) ∗ hbPt0 c hbM0_24 (V m c main_v9) ∗ hbPt0 c hbM0_25 (V m c main_v10) ∗ hbPt0 c hbM0_26 (V m c main_v11))) := by
  rw [Pipeline.ΦD_eq, scopedRest0_eq, ownSems00_eq, hbmPts0_eq]; simp only [scM0_0, scM0_1, scM0_2, scM0_3, scM0_4, scM0_5, scM0_6, scM0_7, scM0_8, scM0_9, scM0_10, scM0_11, scM0_12, scM0_13, scM0_14, scM0_15, scM0_16, scM0_17, scM0_18, scM0_19, scM0_20, scM0_21, scM0_22, scM0_23, scM0_24, scM0_25, scM0_26, scM0_27, owns_whole]; try rfl

end Cert.KernelIdeal.Hand

end
-- ==== Proof.IdealRun.lean ====
/- One run of `KernelIdeal`'s body on whole staging memrefs: every operand copied into scratch and waited for, then the layers,
   then the store of the result; the pieces stored are found by the run. -/
module

public import proofs.«01_k».proof.Proof.Gen.KernelIdeal.Skeleton
public import proofs.«01_k».proof.Proof.IdealSetup

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the HBM operands it copies whole at their launch contents `fh·`, its DMA cells at zero and the core's `owes`, the body runs to the continuation holding the inputs' as they were,
    a scratch it stored into and does not carry with its pieces (`LT·`) written over some contents, the HBM operands and the cells as they were (each transfer lent the operand's block, listed the scratch's delivery and was waited for), the waits recorded in `owes`, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg28 : Memref sig .tc .vmem S32x512x128 .f32) (harg28 : arg28.IsWhole) (arg29 : Memref sig .tc .vmem S32 .i32) (harg29 : arg29.IsWhole) (arg30 : Memref sig .tc .vmem S32 .i32) (harg30 : arg30.IsWhole) (arg31 : Memref sig .tc .vmem S32 .i32) (harg31 : arg31.IsWhole) (arg32 : Memref sig .tc .vmem S16 .f32) (harg32 : arg32.IsWhole) (arg33 : Memref sig .tc .vmem S16 .f32) (harg33 : arg33.IsWhole) (arg34 : Memref sig .tc .vmem S16 .f32) (harg34 : arg34.IsWhole) (arg35 : Memref sig .tc .vmem S16 .f32) (harg35 : arg35.IsWhole) (arg36 : Memref sig .tc .vmem S16 .f32) (harg36 : arg36.IsWhole) (arg37 : Memref sig .tc .vmem S64 .f32) (harg37 : arg37.IsWhole) (arg38 : Memref sig .tc .vmem S32 .f32) (harg38 : arg38.IsWhole) (arg39 : Memref sig .tc .vmem S16 .f32) (harg39 : arg39.IsWhole) (arg40 : Memref sig .tc .vmem S8 .f32) (harg40 : arg40.IsWhole) (arg41 : Memref sig .tc .vmem S1 .f32) (harg41 : arg41.IsWhole) (arg42 : Memref sig .tc .vmem S24 .f32) (harg42 : arg42.IsWhole) (arg43 : Memref sig .tc .vmem S32x128 .f32) (harg43 : arg43.IsWhole) (arg44 : Memref sig .tc .vmem S16x64 .f32) (harg44 : arg44.IsWhole) (arg45 : Memref sig .tc .vmem S16x128 .f32) (harg45 : arg45.IsWhole) (arg46 : Memref sig .tc .vmem S16x256 .f32) (harg46 : arg46.IsWhole) (arg47 : Memref sig .tc .vmem S16x16 .f32) (harg47 : arg47.IsWhole) (arg48 : Memref sig .tc .vmem S16x32 .f32) (harg48 : arg48.IsWhole) (arg49 : Memref sig .tc .vmem S16x48 .f32) (harg49 : arg49.IsWhole) (arg50 : Memref sig .tc .vmem S16x48 .f32) (harg50 : arg50.IsWhole) (arg51 : Memref sig .tc .vmem S16x48 .f32) (harg51 : arg51.IsWhole) (arg52 : Memref sig .tc .vmem S64x144 .f32) (harg52 : arg52.IsWhole) (arg53 : Memref sig .tc .vmem S32x80 .f32) (harg53 : arg53.IsWhole) (arg54 : Memref sig .tc .vmem S16x48 .f32) (harg54 : arg54.IsWhole) (arg55 : Memref sig .tc .vmem S8x32 .f32) (harg55 : arg55.IsWhole) (arg56 : Memref sig .tc .vmem S32x1 .f32) (harg56 : arg56.IsWhole) (hc0 : cond0_0 i)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (fh23 : HbBuf0 (F := F) c hbM0_23) (fh24 : HbBuf0 (F := F) c hbM0_24) (fh25 : HbBuf0 (F := F) c hbM0_25) (fh26 : HbBuf0 (F := F) c hbM0_26) :
    Σ' (L0 : List (View.Piece (Elt F) S32x512x128 .f32)), Σ' (LT0 : List (View.Piece (Elt F) S32 .i32)), Σ' (LT1 : List (View.Piece (Elt F) S32 .i32)), Σ' (LT2 : List (View.Piece (Elt F) S32 .i32)), Σ' (LT3 : List (View.Piece (Elt F) S16 .f32)), Σ' (LT4 : List (View.Piece (Elt F) S16 .f32)), Σ' (LT5 : List (View.Piece (Elt F) S16 .f32)), Σ' (LT6 : List (View.Piece (Elt F) S16 .f32)), Σ' (LT7 : List (View.Piece (Elt F) S16 .f32)), Σ' (LT8 : List (View.Piece (Elt F) S64 .f32)), Σ' (LT9 : List (View.Piece (Elt F) S32 .f32)), Σ' (LT10 : List (View.Piece (Elt F) S16 .f32)), Σ' (LT11 : List (View.Piece (Elt F) S8 .f32)), Σ' (LT12 : List (View.Piece (Elt F) S1 .f32)), Σ' (LT13 : List (View.Piece (Elt F) S24 .f32)), Σ' (LT14 : List (View.Piece (Elt F) S32x128 .f32)), Σ' (LT15 : List (View.Piece (Elt F) S16x64 .f32)), Σ' (LT16 : List (View.Piece (Elt F) S16x128 .f32)), Σ' (LT17 : List (View.Piece (Elt F) S16x256 .f32)), Σ' (LT18 : List (View.Piece (Elt F) S16x16 .f32)), Σ' (LT19 : List (View.Piece (Elt F) S16x32 .f32)), Σ' (LT20 : List (View.Piece (Elt F) S16x48 .f32)), Σ' (LT21 : List (View.Piece (Elt F) S16x48 .f32)), Σ' (LT22 : List (View.Piece (Elt F) S16x48 .f32)), Σ' (LT23 : List (View.Piece (Elt F) S64x144 .f32)), Σ' (LT24 : List (View.Piece (Elt F) S32x80 .f32)), Σ' (LT25 : List (View.Piece (Elt F) S16x48 .f32)), Σ' (LT26 : List (View.Piece (Elt F) S8x32 .f32)), { LT27 : List (View.Piece (Elt F) S32x1 .f32) //
      ∀ (W : Waits sig Unit) (K : PUnit → sProp 𝕄),
        iprop((∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fh10 ∗ hbPt0 c hbM0_11 fh11 ∗ hbPt0 c hbM0_12 fh12 ∗ hbPt0 c hbM0_13 fh13 ∗ hbPt0 c hbM0_14 fh14 ∗ hbPt0 c hbM0_15 fh15 ∗ hbPt0 c hbM0_16 fh16 ∗ hbPt0 c hbM0_17 fh17 ∗ hbPt0 c hbM0_18 fh18 ∗ hbPt0 c hbM0_19 fh19 ∗ hbPt0 c hbM0_20 fh20 ∗ hbPt0 c hbM0_21 fh21 ∗ hbPt0 c hbM0_22 fh22 ∗ hbPt0 c hbM0_23 fh23 ∗ hbPt0 c hbM0_24 fh24 ∗ hbPt0 c hbM0_25 fh25 ∗ hbPt0 c hbM0_26 fh26 ∗ owes (c : Thread nD τ) 0 W
            ∗ (iprop((∃ f, arg28.view.loc (c : Thread nD τ) ↦[arg28.view.set]{fullShare} arg28.view.writes (Elt F) f L0) ∗ (∃ f, arg29.view.loc (c : Thread nD τ) ↦[arg29.view.set]{fullShare} arg29.view.writes (Elt F) f LT0) ∗ (∃ f, arg30.view.loc (c : Thread nD τ) ↦[arg30.view.set]{fullShare} arg30.view.writes (Elt F) f LT1) ∗ (∃ f, arg31.view.loc (c : Thread nD τ) ↦[arg31.view.set]{fullShare} arg31.view.writes (Elt F) f LT2) ∗ (∃ f, arg32.view.loc (c : Thread nD τ) ↦[arg32.view.set]{fullShare} arg32.view.writes (Elt F) f LT3) ∗ (∃ f, arg33.view.loc (c : Thread nD τ) ↦[arg33.view.set]{fullShare} arg33.view.writes (Elt F) f LT4) ∗ (∃ f, arg34.view.loc (c : Thread nD τ) ↦[arg34.view.set]{fullShare} arg34.view.writes (Elt F) f LT5) ∗ (∃ f, arg35.view.loc (c : Thread nD τ) ↦[arg35.view.set]{fullShare} arg35.view.writes (Elt F) f LT6) ∗ (∃ f, arg36.view.loc (c : Thread nD τ) ↦[arg36.view.set]{fullShare} arg36.view.writes (Elt F) f LT7) ∗ (∃ f, arg37.view.loc (c : Thread nD τ) ↦[arg37.view.set]{fullShare} arg37.view.writes (Elt F) f LT8) ∗ (∃ f, arg38.view.loc (c : Thread nD τ) ↦[arg38.view.set]{fullShare} arg38.view.writes (Elt F) f LT9) ∗ (∃ f, arg39.view.loc (c : Thread nD τ) ↦[arg39.view.set]{fullShare} arg39.view.writes (Elt F) f LT10) ∗ (∃ f, arg40.view.loc (c : Thread nD τ) ↦[arg40.view.set]{fullShare} arg40.view.writes (Elt F) f LT11) ∗ (∃ f, arg41.view.loc (c : Thread nD τ) ↦[arg41.view.set]{fullShare} arg41.view.writes (Elt F) f LT12) ∗ (∃ f, arg42.view.loc (c : Thread nD τ) ↦[arg42.view.set]{fullShare} arg42.view.writes (Elt F) f LT13) ∗ (∃ f, arg43.view.loc (c : Thread nD τ) ↦[arg43.view.set]{fullShare} arg43.view.writes (Elt F) f LT14) ∗ (∃ f, arg44.view.loc (c : Thread nD τ) ↦[arg44.view.set]{fullShare} arg44.view.writes (Elt F) f LT15) ∗ (∃ f, arg45.view.loc (c : Thread nD τ) ↦[arg45.view.set]{fullShare} arg45.view.writes (Elt F) f LT16) ∗ (∃ f, arg46.view.loc (c : Thread nD τ) ↦[arg46.view.set]{fullShare} arg46.view.writes (Elt F) f LT17) ∗ (∃ f, arg47.view.loc (c : Thread nD τ) ↦[arg47.view.set]{fullShare} arg47.view.writes (Elt F) f LT18) ∗ (∃ f, arg48.view.loc (c : Thread nD τ) ↦[arg48.view.set]{fullShare} arg48.view.writes (Elt F) f LT19) ∗ (∃ f, arg49.view.loc (c : Thread nD τ) ↦[arg49.view.set]{fullShare} arg49.view.writes (Elt F) f LT20) ∗ (∃ f, arg50.view.loc (c : Thread nD τ) ↦[arg50.view.set]{fullShare} arg50.view.writes (Elt F) f LT21) ∗ (∃ f, arg51.view.loc (c : Thread nD τ) ↦[arg51.view.set]{fullShare} arg51.view.writes (Elt F) f LT22) ∗ (∃ f, arg52.view.loc (c : Thread nD τ) ↦[arg52.view.set]{fullShare} arg52.view.writes (Elt F) f LT23) ∗ (∃ f, arg53.view.loc (c : Thread nD τ) ↦[arg53.view.set]{fullShare} arg53.view.writes (Elt F) f LT24) ∗ (∃ f, arg54.view.loc (c : Thread nD τ) ↦[arg54.view.set]{fullShare} arg54.view.writes (Elt F) f LT25) ∗ (∃ f, arg55.view.loc (c : Thread nD τ) ↦[arg55.view.set]{fullShare} arg55.view.writes (Elt F) f LT26) ∗ (∃ f, arg56.view.loc (c : Thread nD τ) ↦[arg56.view.set]{fullShare} arg56.view.writes (Elt F) f LT27) ∗ semVal ((c : Thread nD τ), SemLoc.dma 1) 0 ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ hbPt0 c hbM0_0 fh0 ∗ hbPt0 c hbM0_1 fh1 ∗ hbPt0 c hbM0_2 fh2 ∗ hbPt0 c hbM0_3 fh3 ∗ hbPt0 c hbM0_4 fh4 ∗ hbPt0 c hbM0_5 fh5 ∗ hbPt0 c hbM0_6 fh6 ∗ hbPt0 c hbM0_7 fh7 ∗ hbPt0 c hbM0_8 fh8 ∗ hbPt0 c hbM0_9 fh9 ∗ hbPt0 c hbM0_10 fh10 ∗ hbPt0 c hbM0_11 fh11 ∗ hbPt0 c hbM0_12 fh12 ∗ hbPt0 c hbM0_13 fh13 ∗ hbPt0 c hbM0_14 fh14 ∗ hbPt0 c hbM0_15 fh15 ∗ hbPt0 c hbM0_16 fh16 ∗ hbPt0 c hbM0_17 fh17 ∗ hbPt0 c hbM0_18 fh18 ∗ hbPt0 c hbM0_19 fh19 ∗ hbPt0 c hbM0_20 fh20 ∗ hbPt0 c hbM0_21 fh21 ∗ hbPt0 c hbM0_22 fh22 ∗ hbPt0 c hbM0_23 fh23 ∗ hbPt0 c hbM0_24 fh24 ∗ hbPt0 c hbM0_25 fh25 ∗ hbPt0 c hbM0_26 fh26 ∗ (∃ W', owes (c : Thread nD τ) 0 W')) -∗ K ⟨⟩))
          ⊢ wp frame (wpE (defs₀ (F := F)) Variants.none c none) Set.univ (cc0__fgl_kernel i (Memref.whole main_arg1) (Memref.isWhole_whole _) (Memref.whole main_arg2) (Memref.isWhole_whole _) (Memref.whole main_arg3) (Memref.isWhole_whole _) (Memref.whole main_arg8) (Memref.isWhole_whole _) (Memref.whole main_arg10) (Memref.isWhole_whole _) (Memref.whole main_arg12) (Memref.isWhole_whole _) (Memref.whole main_arg14) (Memref.isWhole_whole _) (Memref.whole main_arg16) (Memref.isWhole_whole _) (Memref.whole main_arg18) (Memref.isWhole_whole _) (Memref.whole main_arg20) (Memref.isWhole_whole _) (Memref.whole main_arg22) (Memref.isWhole_whole _) (Memref.whole main_arg24) (Memref.isWhole_whole _) (Memref.whole main_arg26) (Memref.isWhole_whole _) (Memref.whole main_v0) (Memref.isWhole_whole _) (Memref.whole main_arg0) (Memref.isWhole_whole _) (Memref.whole main_v1) (Memref.isWhole_whole _) (Memref.whole main_v2) (Memref.isWhole_whole _) (Memref.whole main_v3) (Memref.isWhole_whole _) (Memref.whole main_arg7) (Memref.isWhole_whole _) (Memref.whole main_v4) (Memref.isWhole_whole _) (Memref.whole main_v5) (Memref.isWhole_whole _) (Memref.whole main_v6) (Memref.isWhole_whole _) (Memref.whole main_v7) (Memref.isWhole_whole _) (Memref.whole main_v8) (Memref.isWhole_whole _) (Memref.whole main_v9) (Memref.isWhole_whole _) (Memref.whole main_v10) (Memref.isWhole_whole _) (Memref.whole main_v11) (Memref.isWhole_whole _) arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 cc0_scratch28) K } := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, fun W K => ?run⟩
  case run =>
    simp only [cc0__fgl_kernel_eq_skeleton]; unfold cc0__fgl_kernel_skel
    simp only [k0_part7_eq_skeleton, k0_part1_eq_skeleton, k0_part2_eq_skeleton, k0_part3_eq_skeleton, k0_part4_eq_skeleton, k0_part5_eq_skeleton, k0_part6_eq_skeleton]
    unfold owns
    iintro ⟨⟨%d0, %f0, -, H0⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, ⟨%ds7, %fs7, -, HS7⟩, ⟨%ds8, %fs8, -, HS8⟩, ⟨%ds9, %fs9, -, HS9⟩, ⟨%ds10, %fs10, -, HS10⟩, ⟨%ds11, %fs11, -, HS11⟩, ⟨%ds12, %fs12, -, HS12⟩, ⟨%ds13, %fs13, -, HS13⟩, ⟨%ds14, %fs14, -, HS14⟩, ⟨%ds15, %fs15, -, HS15⟩, ⟨%ds16, %fs16, -, HS16⟩, ⟨%ds17, %fs17, -, HS17⟩, ⟨%ds18, %fs18, -, HS18⟩, ⟨%ds19, %fs19, -, HS19⟩, ⟨%ds20, %fs20, -, HS20⟩, ⟨%ds21, %fs21, -, HS21⟩, ⟨%ds22, %fs22, -, HS22⟩, ⟨%ds23, %fs23, -, HS23⟩, ⟨%ds24, %fs24, -, HS24⟩, ⟨%ds25, %fs25, -, HS25⟩, ⟨%ds26, %fs26, -, HS26⟩, ⟨%ds27, %fs27, -, HS27⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, HW, Hk⟩
    sl_exec (disch := first | sl_exact hc0)
    sl_step
    iapply Hk
    isplitl [H0]; · iexists _; iexact H0
    isplitl [HS0]; · iexists _; iexact HS0
    isplitl [HS1]; · iexists _; iexact HS1
    isplitl [HS2]; · iexists _; iexact HS2
    isplitl [HS3]; · iexists _; iexact HS3
    isplitl [HS4]; · iexists _; iexact HS4
    isplitl [HS5]; · iexists _; iexact HS5
    isplitl [HS6]; · iexists _; iexact HS6
    isplitl [HS7]; · iexists _; iexact HS7
    isplitl [HS8]; · iexists _; iexact HS8
    isplitl [HS9]; · iexists _; iexact HS9
    isplitl [HS10]; · iexists _; iexact HS10
    isplitl [HS11]; · iexists _; iexact HS11
    isplitl [HS12]; · iexists _; iexact HS12
    isplitl [HS13]; · iexists _; iexact HS13
    isplitl [HS14]; · iexists _; iexact HS14
    isplitl [HS15]; · iexists _; iexact HS15
    isplitl [HS16]; · iexists _; iexact HS16
    isplitl [HS17]; · iexists _; iexact HS17
    isplitl [HS18]; · iexists _; iexact HS18
    isplitl [HS19]; · iexists _; iexact HS19
    isplitl [HS20]; · iexists _; iexact HS20
    isplitl [HS21]; · iexists _; iexact HS21
    isplitl [HS22]; · iexists _; iexact HS22
    isplitl [HS23]; · iexists _; iexact HS23
    isplitl [HS24]; · iexists _; iexact HS24
    isplitl [HS25]; · iexists _; iexact HS25
    isplitl [HS26]; · iexists _; iexact HS26
    isplitl [HS27]; · iexists _; iexact HS27
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hq16]; · iexact Hq16
    isplitl [Hq17]; · iexact Hq17
    isplitl [Hq18]; · iexact Hq18
    isplitl [Hq19]; · iexact Hq19
    isplitl [Hq20]; · iexact Hq20
    isplitl [Hq21]; · iexact Hq21
    isplitl [Hq22]; · iexact Hq22
    isplitl [Hq23]; · iexact Hq23
    isplitl [Hq24]; · iexact Hq24
    isplitl [Hq25]; · iexact Hq25
    isplitl [Hq26]; · iexact Hq26
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    isplitl [Hh26]; · iexact Hh26
    iexists _; iexact HW

end Cert.KernelIdeal.Hand

end
-- ==== Proof.IdealFrame.lean ====
/- The frame of `KernelIdeal`: what the region's result holds after the body, the body at its point, the launch, and the
   arguments and counters at the end. -/
module

public import proofs.«01_k».proof.Proof.IdealRun
public import Idealize.ShloMosaic.Lib.Claim

@[expose] public section

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-- The run's pieces for output 0 tile its block (1 store of `S32x512x128`, checked by the kernel's evaluation: Lib/Ring.lean `Piece.tiledL`, linear in the pieces, through a loop's `@[irreducible]` trip theorem too), so they cover it. -/
theorem cover0_A_0 (c : Dev nD) (i : grid0.Coords) (arg28 : Memref sig .tc .vmem S32x512x128 .f32) (harg28 : arg28.IsWhole) (arg29 : Memref sig .tc .vmem S32 .i32) (harg29 : arg29.IsWhole) (arg30 : Memref sig .tc .vmem S32 .i32) (harg30 : arg30.IsWhole) (arg31 : Memref sig .tc .vmem S32 .i32) (harg31 : arg31.IsWhole) (arg32 : Memref sig .tc .vmem S16 .f32) (harg32 : arg32.IsWhole) (arg33 : Memref sig .tc .vmem S16 .f32) (harg33 : arg33.IsWhole) (arg34 : Memref sig .tc .vmem S16 .f32) (harg34 : arg34.IsWhole) (arg35 : Memref sig .tc .vmem S16 .f32) (harg35 : arg35.IsWhole) (arg36 : Memref sig .tc .vmem S16 .f32) (harg36 : arg36.IsWhole) (arg37 : Memref sig .tc .vmem S64 .f32) (harg37 : arg37.IsWhole) (arg38 : Memref sig .tc .vmem S32 .f32) (harg38 : arg38.IsWhole) (arg39 : Memref sig .tc .vmem S16 .f32) (harg39 : arg39.IsWhole) (arg40 : Memref sig .tc .vmem S8 .f32) (harg40 : arg40.IsWhole) (arg41 : Memref sig .tc .vmem S1 .f32) (harg41 : arg41.IsWhole) (arg42 : Memref sig .tc .vmem S24 .f32) (harg42 : arg42.IsWhole) (arg43 : Memref sig .tc .vmem S32x128 .f32) (harg43 : arg43.IsWhole) (arg44 : Memref sig .tc .vmem S16x64 .f32) (harg44 : arg44.IsWhole) (arg45 : Memref sig .tc .vmem S16x128 .f32) (harg45 : arg45.IsWhole) (arg46 : Memref sig .tc .vmem S16x256 .f32) (harg46 : arg46.IsWhole) (arg47 : Memref sig .tc .vmem S16x16 .f32) (harg47 : arg47.IsWhole) (arg48 : Memref sig .tc .vmem S16x32 .f32) (harg48 : arg48.IsWhole) (arg49 : Memref sig .tc .vmem S16x48 .f32) (harg49 : arg49.IsWhole) (arg50 : Memref sig .tc .vmem S16x48 .f32) (harg50 : arg50.IsWhole) (arg51 : Memref sig .tc .vmem S16x48 .f32) (harg51 : arg51.IsWhole) (arg52 : Memref sig .tc .vmem S64x144 .f32) (harg52 : arg52.IsWhole) (arg53 : Memref sig .tc .vmem S32x80 .f32) (harg53 : arg53.IsWhole) (arg54 : Memref sig .tc .vmem S16x48 .f32) (harg54 : arg54.IsWhole) (arg55 : Memref sig .tc .vmem S8x32 .f32) (harg55 : arg55.IsWhole) (arg56 : Memref sig .tc .vmem S32x1 .f32) (harg56 : arg56.IsWhole) (hc0 : cond0_0 i)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (fh23 : HbBuf0 (F := F) c hbM0_23) (fh24 : HbBuf0 (F := F) c hbM0_24) (fh25 : HbBuf0 (F := F) c hbM0_25) (fh26 : HbBuf0 (F := F) c hbM0_26) (y : S32x512x128.Idx) :
    ∃ pc ∈ (kernelRun0_A c i arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 hc0  fh0 fh1 fh2 fh3 fh4 fh5 fh6 fh7 fh8 fh9 fh10 fh11 fh12 fh13 fh14 fh15 fh16 fh17 fh18 fh19 fh20 fh21 fh22 fh23 fh24 fh25 fh26).1, y ∈ pc.1.set :=
  View.cover_of_tiledL (kernelRun0_A c i arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 hc0  fh0 fh1 fh2 fh3 fh4 fh5 fh6 fh7 fh8 fh9 fh10 fh11 fh12 fh13 fh14 fh15 fh16 fh17 fh18 fh19 fh20 fh21 fh22 fh23 fh24 fh25 fh26).1 S32x512x128.size (by sl_kernel_rfl) y

/-- What the run leaves in output 0's staging buffer: its pieces read back over junk. -/
def out0_A_0 (c : Dev nD) (i : grid0.Coords) (arg28 : Memref sig .tc .vmem S32x512x128 .f32) (harg28 : arg28.IsWhole) (arg29 : Memref sig .tc .vmem S32 .i32) (harg29 : arg29.IsWhole) (arg30 : Memref sig .tc .vmem S32 .i32) (harg30 : arg30.IsWhole) (arg31 : Memref sig .tc .vmem S32 .i32) (harg31 : arg31.IsWhole) (arg32 : Memref sig .tc .vmem S16 .f32) (harg32 : arg32.IsWhole) (arg33 : Memref sig .tc .vmem S16 .f32) (harg33 : arg33.IsWhole) (arg34 : Memref sig .tc .vmem S16 .f32) (harg34 : arg34.IsWhole) (arg35 : Memref sig .tc .vmem S16 .f32) (harg35 : arg35.IsWhole) (arg36 : Memref sig .tc .vmem S16 .f32) (harg36 : arg36.IsWhole) (arg37 : Memref sig .tc .vmem S64 .f32) (harg37 : arg37.IsWhole) (arg38 : Memref sig .tc .vmem S32 .f32) (harg38 : arg38.IsWhole) (arg39 : Memref sig .tc .vmem S16 .f32) (harg39 : arg39.IsWhole) (arg40 : Memref sig .tc .vmem S8 .f32) (harg40 : arg40.IsWhole) (arg41 : Memref sig .tc .vmem S1 .f32) (harg41 : arg41.IsWhole) (arg42 : Memref sig .tc .vmem S24 .f32) (harg42 : arg42.IsWhole) (arg43 : Memref sig .tc .vmem S32x128 .f32) (harg43 : arg43.IsWhole) (arg44 : Memref sig .tc .vmem S16x64 .f32) (harg44 : arg44.IsWhole) (arg45 : Memref sig .tc .vmem S16x128 .f32) (harg45 : arg45.IsWhole) (arg46 : Memref sig .tc .vmem S16x256 .f32) (harg46 : arg46.IsWhole) (arg47 : Memref sig .tc .vmem S16x16 .f32) (harg47 : arg47.IsWhole) (arg48 : Memref sig .tc .vmem S16x32 .f32) (harg48 : arg48.IsWhole) (arg49 : Memref sig .tc .vmem S16x48 .f32) (harg49 : arg49.IsWhole) (arg50 : Memref sig .tc .vmem S16x48 .f32) (harg50 : arg50.IsWhole) (arg51 : Memref sig .tc .vmem S16x48 .f32) (harg51 : arg51.IsWhole) (arg52 : Memref sig .tc .vmem S64x144 .f32) (harg52 : arg52.IsWhole) (arg53 : Memref sig .tc .vmem S32x80 .f32) (harg53 : arg53.IsWhole) (arg54 : Memref sig .tc .vmem S16x48 .f32) (harg54 : arg54.IsWhole) (arg55 : Memref sig .tc .vmem S8x32 .f32) (harg55 : arg55.IsWhole) (arg56 : Memref sig .tc .vmem S32x1 .f32) (harg56 : arg56.IsWhole) (hc0 : cond0_0 i)
     (fh0 : HbBuf0 (F := F) c hbM0_0) (fh1 : HbBuf0 (F := F) c hbM0_1) (fh2 : HbBuf0 (F := F) c hbM0_2) (fh3 : HbBuf0 (F := F) c hbM0_3) (fh4 : HbBuf0 (F := F) c hbM0_4) (fh5 : HbBuf0 (F := F) c hbM0_5) (fh6 : HbBuf0 (F := F) c hbM0_6) (fh7 : HbBuf0 (F := F) c hbM0_7) (fh8 : HbBuf0 (F := F) c hbM0_8) (fh9 : HbBuf0 (F := F) c hbM0_9) (fh10 : HbBuf0 (F := F) c hbM0_10) (fh11 : HbBuf0 (F := F) c hbM0_11) (fh12 : HbBuf0 (F := F) c hbM0_12) (fh13 : HbBuf0 (F := F) c hbM0_13) (fh14 : HbBuf0 (F := F) c hbM0_14) (fh15 : HbBuf0 (F := F) c hbM0_15) (fh16 : HbBuf0 (F := F) c hbM0_16) (fh17 : HbBuf0 (F := F) c hbM0_17) (fh18 : HbBuf0 (F := F) c hbM0_18) (fh19 : HbBuf0 (F := F) c hbM0_19) (fh20 : HbBuf0 (F := F) c hbM0_20) (fh21 : HbBuf0 (F := F) c hbM0_21) (fh22 : HbBuf0 (F := F) c hbM0_22) (fh23 : HbBuf0 (F := F) c hbM0_23) (fh24 : HbBuf0 (F := F) c hbM0_24) (fh25 : HbBuf0 (F := F) c hbM0_25) (fh26 : HbBuf0 (F := F) c hbM0_26) : Vec F S32x512x128 .f32 :=
  VO0_0.read (Elt F) (VO0_0.writes (Elt F) VO0_0.junk (kernelRun0_A c i arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 hc0  fh0 fh1 fh2 fh3 fh4 fh5 fh6 fh7 fh8 fh9 fh10 fh11 fh12 fh13 fh14 fh15 fh16 fh17 fh18 fh19 fh20 fh21 fh22 fh23 fh24 fh25 fh26).1)

/-! ## What the outputs hold after each point -/

/-- What the outputs' staging buffers hold after the body at point `t`: the run's contents at
    the point's memrefs and input blocks. -/
def outsAt0 (c : Dev nD) (t : Fin cfg0.N) : Vec F S32x512x128 .f32 :=
  out0_A_0 c (grid0.coords t) (ms0_0 t) (hs0_0 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) scM0_8 (Memref.isWhole_whole _) scM0_9 (Memref.isWhole_whole _) scM0_10 (Memref.isWhole_whole _) scM0_11 (Memref.isWhole_whole _) scM0_12 (Memref.isWhole_whole _) scM0_13 (Memref.isWhole_whole _) scM0_14 (Memref.isWhole_whole _) scM0_15 (Memref.isWhole_whole _) scM0_16 (Memref.isWhole_whole _) scM0_17 (Memref.isWhole_whole _) scM0_18 (Memref.isWhole_whole _) scM0_19 (Memref.isWhole_whole _) scM0_20 (Memref.isWhole_whole _) scM0_21 (Memref.isWhole_whole _) scM0_22 (Memref.isWhole_whole _) scM0_23 (Memref.isWhole_whole _) scM0_24 (Memref.isWhole_whole _) scM0_25 (Memref.isWhole_whole _) scM0_26 (Memref.isWhole_whole _) scM0_27 (Memref.isWhole_whole _) (hcond0_0 t)  (V m c main_arg1) (V m c main_arg2) (V m c main_arg3) (V m c main_arg8) (V m c main_arg10) (V m c main_arg12) (V m c main_arg14) (V m c main_arg16) (V m c main_arg18) (V m c main_arg20) (V m c main_arg22) (V m c main_arg24) (V m c main_arg26) (V m c main_v0) (V m c main_arg0) (V m c main_v1) (V m c main_v2) (V m c main_v3) (V m c main_arg7) (V m c main_v4) (V m c main_v5) (V m c main_v6) (V m c main_v7) (V m c main_v8) (V m c main_v9) (V m c main_v10) (V m c main_v11)

/-! ## The pipeline's proof data -/

/-- The proof data of the one pipeline on core `c`: the arrays as the region finds them (`V`); after the body at
    point `t` each input's buffer at its block and the outputs' at `outsAt0`; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => (outsAt0 m c t)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = (outsAt0 m c t) := by dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t))

set_option maxHeartbeats 2800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    after0_0]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold outsAt0
  unfold out0_A_0
  iintro ⟨⟨⟨HS0, HS1, HS2, HS3, HS4, HS5, HS6, HS7, HS8, HS9, HS10, HS11, HS12, HS13, HS14, HS15, HS16, HS17, HS18, HS19, HS20, HS21, HS22, HS23, HS24, HS25, HS26, HS27⟩, Hg, ⟨Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26⟩, ⟨Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26⟩⟩, ⟨%W, -, HW⟩, ⟨%d0, H0⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ (hcond0_0 t)  (V m c main_arg1) (V m c main_arg2) (V m c main_arg3) (V m c main_arg8) (V m c main_arg10) (V m c main_arg12) (V m c main_arg14) (V m c main_arg16) (V m c main_arg18) (V m c main_arg20) (V m c main_arg22) (V m c main_arg24) (V m c main_arg26) (V m c main_v0) (V m c main_arg0) (V m c main_v1) (V m c main_v2) (V m c main_v3) (V m c main_arg7) (V m c main_v4) (V m c main_v5) (V m c main_v6) (V m c main_v7) (V m c main_v8) (V m c main_v9) (V m c main_v10) (V m c main_v11)).2.2.2.2.2.2.2.2.2.2.2.2.2.2.2.2.2.2.2.2.2.2.2.2.2.2.2.2.2 W _)
  isplitl [H0]; · iexists _; iexact H0
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  isplitl [HS7]; · iexact HS7
  isplitl [HS8]; · iexact HS8
  isplitl [HS9]; · iexact HS9
  isplitl [HS10]; · iexact HS10
  isplitl [HS11]; · iexact HS11
  isplitl [HS12]; · iexact HS12
  isplitl [HS13]; · iexact HS13
  isplitl [HS14]; · iexact HS14
  isplitl [HS15]; · iexact HS15
  isplitl [HS16]; · iexact HS16
  isplitl [HS17]; · iexact HS17
  isplitl [HS18]; · iexact HS18
  isplitl [HS19]; · iexact HS19
  isplitl [HS20]; · iexact HS20
  isplitl [HS21]; · iexact HS21
  isplitl [HS22]; · iexact HS22
  isplitl [HS23]; · iexact HS23
  isplitl [HS24]; · iexact HS24
  isplitl [HS25]; · iexact HS25
  isplitl [HS26]; · iexact HS26
  isplitl [HS27]; · iexact HS27
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hq16]; · iexact Hq16
  isplitl [Hq17]; · iexact Hq17
  isplitl [Hq18]; · iexact Hq18
  isplitl [Hq19]; · iexact Hq19
  isplitl [Hq20]; · iexact Hq20
  isplitl [Hq21]; · iexact Hq21
  isplitl [Hq22]; · iexact Hq22
  isplitl [Hq23]; · iexact Hq23
  isplitl [Hq24]; · iexact Hq24
  isplitl [Hq25]; · iexact Hq25
  isplitl [Hq26]; · iexact Hq26
  isplitl [Hh0]; · iexact Hh0
  isplitl [Hh1]; · iexact Hh1
  isplitl [Hh2]; · iexact Hh2
  isplitl [Hh3]; · iexact Hh3
  isplitl [Hh4]; · iexact Hh4
  isplitl [Hh5]; · iexact Hh5
  isplitl [Hh6]; · iexact Hh6
  isplitl [Hh7]; · iexact Hh7
  isplitl [Hh8]; · iexact Hh8
  isplitl [Hh9]; · iexact Hh9
  isplitl [Hh10]; · iexact Hh10
  isplitl [Hh11]; · iexact Hh11
  isplitl [Hh12]; · iexact Hh12
  isplitl [Hh13]; · iexact Hh13
  isplitl [Hh14]; · iexact Hh14
  isplitl [Hh15]; · iexact Hh15
  isplitl [Hh16]; · iexact Hh16
  isplitl [Hh17]; · iexact Hh17
  isplitl [Hh18]; · iexact Hh18
  isplitl [Hh19]; · iexact Hh19
  isplitl [Hh20]; · iexact Hh20
  isplitl [Hh21]; · iexact Hh21
  isplitl [Hh22]; · iexact Hh22
  isplitl [Hh23]; · iexact Hh23
  isplitl [Hh24]; · iexact Hh24
  isplitl [Hh25]; · iexact Hh25
  isplitl [Hh26]; · iexact Hh26
  isplitl [HW]; · iexact HW
  iintro ⟨⟨%e0, H0⟩, ⟨%fT0, HS0⟩, ⟨%fT1, HS1⟩, ⟨%fT2, HS2⟩, ⟨%fT3, HS3⟩, ⟨%fT4, HS4⟩, ⟨%fT5, HS5⟩, ⟨%fT6, HS6⟩, ⟨%fT7, HS7⟩, ⟨%fT8, HS8⟩, ⟨%fT9, HS9⟩, ⟨%fT10, HS10⟩, ⟨%fT11, HS11⟩, ⟨%fT12, HS12⟩, ⟨%fT13, HS13⟩, ⟨%fT14, HS14⟩, ⟨%fT15, HS15⟩, ⟨%fT16, HS16⟩, ⟨%fT17, HS17⟩, ⟨%fT18, HS18⟩, ⟨%fT19, HS19⟩, ⟨%fT20, HS20⟩, ⟨%fT21, HS21⟩, ⟨%fT22, HS22⟩, ⟨%fT23, HS23⟩, ⟨%fT24, HS24⟩, ⟨%fT25, HS25⟩, ⟨%fT26, HS26⟩, ⟨%fT27, HS27⟩, Hq0, Hq1, Hq2, Hq3, Hq4, Hq5, Hq6, Hq7, Hq8, Hq9, Hq10, Hq11, Hq12, Hq13, Hq14, Hq15, Hq16, Hq17, Hq18, Hq19, Hq20, Hq21, Hq22, Hq23, Hq24, Hq25, Hq26, Hh0, Hh1, Hh2, Hh3, Hh4, Hh5, Hh6, Hh7, Hh8, Hh9, Hh10, Hh11, Hh12, Hh13, Hh14, Hh15, Hh16, Hh17, Hh18, Hh19, Hh20, Hh21, Hh22, Hh23, Hh24, Hh25, Hh26, ⟨%W', HW'⟩⟩
  isplitl [HS0 HS1 HS2 HS3 HS4 HS5 HS6 HS7 HS8 HS9 HS10 HS11 HS12 HS13 HS14 HS15 HS16 HS17 HS18 HS19 HS20 HS21 HS22 HS23 HS24 HS25 HS26 HS27 Hg Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26 Hh0 Hh1 Hh2 Hh3 Hh4 Hh5 Hh6 Hh7 Hh8 Hh9 Hh10 Hh11 Hh12 Hh13 Hh14 Hh15 Hh16 Hh17 Hh18 Hh19 Hh20 Hh21 Hh22 Hh23 Hh24 Hh25 Hh26]
  · isplitl [HS0 HS1 HS2 HS3 HS4 HS5 HS6 HS7 HS8 HS9 HS10 HS11 HS12 HS13 HS14 HS15 HS16 HS17 HS18 HS19 HS20 HS21 HS22 HS23 HS24 HS25 HS26 HS27]
    · isplitl [HS0]
      · iexists _; unfold owns; iexists _; isplitr
        swap; · iexact HS0
        ipureintro; rfl
      isplitl [HS1]
      · iexists _; unfold owns; iexists _; isplitr
        swap; · iexact HS1
        ipureintro; rfl
      isplitl [HS2]
      · iexists _; unfold owns; iexists _; isplitr
        swap; · iexact HS2
        ipureintro; rfl
      isplitl [HS3]
      · iexists _; unfold owns; iexists _; isplitr
        swap; · iexact HS3
        ipureintro; rfl
      isplitl [HS4]
      · iexists _; unfold owns; iexists _; isplitr
        swap; · iexact HS4
        ipureintro; rfl
      isplitl [HS5]
      · iexists _; unfold owns; iexists _; isplitr
        swap; · iexact HS5
        ipureintro; rfl
      isplitl [HS6]
      · iexists _; unfold owns; iexists _; isplitr
        swap; · iexact HS6
        ipureintro; rfl
      isplitl [HS7]
      · iexists _; unfold owns; iexists _; isplitr
        swap; · iexact HS7
        ipureintro; rfl
      isplitl [HS8]
      · iexists _; unfold owns; iexists _; isplitr
        swap; · iexact HS8
        ipureintro; rfl
      isplitl [HS9]
      · iexists _; unfold owns; iexists _; isplitr
        swap; · iexact HS9
        ipureintro; rfl
      isplitl [HS10]
      · iexists _; unfold owns; iexists _; isplitr
        swap; · iexact HS10
        ipureintro; rfl
      isplitl [HS11]
      · iexists _; unfold owns; iexists _; isplitr
        swap; · iexact HS11
        ipureintro; rfl
      isplitl [HS12]
      · iexists _; unfold owns; iexists _; isplitr
        swap; · iexact HS12
        ipureintro; rfl
      isplitl [HS13]
      · iexists _; unfold owns; iexists _; isplitr
        swap; · iexact HS13
        ipureintro; rfl
      isplitl [HS14]
      · iexists _; unfold owns; iexists _; isplitr
        swap; · iexact HS14
        ipureintro; rfl
      isplitl [HS15]
      · iexists _; unfold owns; iexists _; isplitr
        swap; · iexact HS15
        ipureintro; rfl
      isplitl [HS16]
      · iexists _; unfold owns; iexists _; isplitr
        swap; · iexact HS16
        ipureintro; rfl
      isplitl [HS17]
      · iexists _; unfold owns; iexists _; isplitr
        swap; · iexact HS17
        ipureintro; rfl
      isplitl [HS18]
      · iexists _; unfold owns; iexists _; isplitr
        swap; · iexact HS18
        ipureintro; rfl
      isplitl [HS19]
      · iexists _; unfold owns; iexists _; isplitr
        swap; · iexact HS19
        ipureintro; rfl
      isplitl [HS20]
      · iexists _; unfold owns; iexists _; isplitr
        swap; · iexact HS20
        ipureintro; rfl
      isplitl [HS21]
      · iexists _; unfold owns; iexists _; isplitr
        swap; · iexact HS21
        ipureintro; rfl
      isplitl [HS22]
      · iexists _; unfold owns; iexists _; isplitr
        swap; · iexact HS22
        ipureintro; rfl
      isplitl [HS23]
      · iexists _; unfold owns; iexists _; isplitr
        swap; · iexact HS23
        ipureintro; rfl
      isplitl [HS24]
      · iexists _; unfold owns; iexists _; isplitr
        swap; · iexact HS24
        ipureintro; rfl
      isplitl [HS25]
      · iexists _; unfold owns; iexists _; isplitr
        swap; · iexact HS25
        ipureintro; rfl
      isplitl [HS26]
      · iexists _; unfold owns; iexists _; isplitr
        swap; · iexact HS26
        ipureintro; rfl
      iexists _; unfold owns; iexists _; isplitr
      swap; · iexact HS27
      ipureintro; rfl
    isplitl [Hg]
    · iexact Hg
    isplitl [Hq0 Hq1 Hq2 Hq3 Hq4 Hq5 Hq6 Hq7 Hq8 Hq9 Hq10 Hq11 Hq12 Hq13 Hq14 Hq15 Hq16 Hq17 Hq18 Hq19 Hq20 Hq21 Hq22 Hq23 Hq24 Hq25 Hq26]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      isplitl [Hq20]; · iexact Hq20
      isplitl [Hq21]; · iexact Hq21
      isplitl [Hq22]; · iexact Hq22
      isplitl [Hq23]; · iexact Hq23
      isplitl [Hq24]; · iexact Hq24
      isplitl [Hq25]; · iexact Hq25
      iexact Hq26
    isplitl [Hh0]; · iexact Hh0
    isplitl [Hh1]; · iexact Hh1
    isplitl [Hh2]; · iexact Hh2
    isplitl [Hh3]; · iexact Hh3
    isplitl [Hh4]; · iexact Hh4
    isplitl [Hh5]; · iexact Hh5
    isplitl [Hh6]; · iexact Hh6
    isplitl [Hh7]; · iexact Hh7
    isplitl [Hh8]; · iexact Hh8
    isplitl [Hh9]; · iexact Hh9
    isplitl [Hh10]; · iexact Hh10
    isplitl [Hh11]; · iexact Hh11
    isplitl [Hh12]; · iexact Hh12
    isplitl [Hh13]; · iexact Hh13
    isplitl [Hh14]; · iexact Hh14
    isplitl [Hh15]; · iexact Hh15
    isplitl [Hh16]; · iexact Hh16
    isplitl [Hh17]; · iexact Hh17
    isplitl [Hh18]; · iexact Hh18
    isplitl [Hh19]; · iexact Hh19
    isplitl [Hh20]; · iexact Hh20
    isplitl [Hh21]; · iexact Hh21
    isplitl [Hh22]; · iexact Hh22
    isplitl [Hh23]; · iexact Hh23
    isplitl [Hh24]; · iexact Hh24
    isplitl [Hh25]; · iexact Hh25
    iexact Hh26
  isplitl [HW']
  · iexists W'; isplitr; · ipureintro; exact fun _ _ => Or.inl trivial
    iexact HW'
  unfold owns; iexists _; isplitr
  swap; · iexact H0
  ipureintro; exact View.read_writes_of_cover _ _ _ _ _ (cover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _  _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma_around`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- At the compiled mesh, for any values, from any memory with zero counters: every weakly fair execution of @main on the
    TensorCores terminates, and every final state has every array of the pipeline at what the library computes from the
    proof data and every other unscoped buffer as the lines after the region leave it (Lib/Pipeline/Frame.lean `FramePost`). -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame of `KernelIdeal`: every run ends, with every argument array as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31))
      ∧ r.2.sem = fun _ => 0) :=
  (θ_run defs _ _).mono (fun r h => ⟨fun c => args_kept m (dats m) r h.1 c, h.2⟩) (run_main_quiescent m ρ)

end Cert.KernelIdeal.Hand

end
-- ==== Proof.IdealValue.lean ====
/- The value of the region's result: the array it leaves is the kernel's composed expression of the arrays the region finds. -/
module

public import proofs.«01_k».proof.Proof.IdealFrame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Hand

open Cert.KernelIdeal.Gen

/-- The kernel's score of every sample, a column of 32: from the latents `z`, the three index arrays, the (transposed)
    embedding tables, and the weights and biases of the layers in the layouts the kernel reads. -/
def score (z : Vec Ideal S32x128 .f32) (st ta co : Vec Ideal S32 .i32)
    (est : Vec Ideal S16x64 .f32) (ett : Vec Ideal S16x128 .f32) (ect : Vec Ideal S16x256 .f32)
    (w0 : Vec Ideal S16x16 .f32) (w1 : Vec Ideal S16x32 .f32) (w2 w3 w4 : Vec Ideal S16x48 .f32)
    (b0 b1 b2 b3 b4 : Vec Ideal S16 .f32)
    (u0 : Vec Ideal S64x144 .f32) (d0 : Vec Ideal S64 .f32) (u1 : Vec Ideal S32x80 .f32) (d1 : Vec Ideal S32 .f32)
    (u2 : Vec Ideal S16x48 .f32) (d2 : Vec Ideal S16 .f32) (u3 : Vec Ideal S8x32 .f32) (d3 : Vec Ideal S8 .f32)
    (u4 : Vec Ideal S24 .f32) (d4 : Vec Ideal S1 .f32) : FVec Ideal S32x1 .f32 :=
  k0_pay14 (k0_pay11 (k0_pay10 (k0_pay3 st est) (k0_pay4 ta) ett co ect w3) b3)
    (k0_pay12 (k0_pay6 (k0_pay3 st est) (k0_pay4 ta) ett co ect) w4 b4)
    (k0_pay13 (k0_pay7 (k0_pay3 st est) w0 b0) (k0_pay8 (k0_pay3 st est) (k0_pay4 ta) ett w1 b1)
      (k0_pay9 (k0_pay3 st est) (k0_pay4 ta) ett co ect w2 b2) z u0 d0 u1 d1) u2 d2 u3 d3 u4 d4

/-- A whole vector stored over a staging buffer and read back whole is the vector. -/
theorem copied {κ : Kind} {sp : Space} {S : Shape} {e : EltTy} (v : View sig κ sp S e) {off : Fin S.rank → Nat}
    (h : off = fun _ => 0) (inb : ∀ a, off a + S.size a ≤ S.size a) (w : S.Idx → Elt Ideal e) :
    v.readCov [(⟨Rect.whole S, w⟩ : View.Piece (Elt Ideal) S e)] (Rect.unit off S.size inb).toLoadRect = w := by
  subst h; exact View.readCov_unit_zero v rfl inb w

/-- The zero offset on one axis. -/
theorem z1 : (![0] : Fin 1 → Nat) = fun _ => 0 := by funext a; fin_cases a; rfl
/-- The zero offset on two axes. -/
theorem z2 : (![0, 0] : Fin 2 → Nat) = fun _ => 0 := by funext a; fin_cases a <;> rfl

variable (m : (ℓ : Loc nD τ sig) → Buf (Elt Ideal) ℓ)

/-- The kernel's score at the contents the region finds. -/
def scoreAt (c : Dev nD) : FVec Ideal S32x1 .f32 :=
  score (V m c main_arg0) (V m c main_arg1) (V m c main_arg2) (V m c main_arg3) (V m c main_v1) (V m c main_v2) (V m c main_v3)
    (V m c main_arg7) (V m c main_v4) (V m c main_v5) (V m c main_v6) (V m c main_v7)
    (V m c main_arg8) (V m c main_arg10) (V m c main_arg12) (V m c main_arg14) (V m c main_arg16)
    (V m c main_v8) (V m c main_arg18) (V m c main_v9) (V m c main_arg20) (V m c main_v10) (V m c main_arg22)
    (V m c main_v11) (V m c main_arg24) (V m c main_v0) (V m c main_arg26)

/-- The array of the result window after the region: the scores, each repeated over its sample's block. -/
theorem final (c : Dev nD) : (dats m 0 c).arrAt 0 (cfgs 0).N = k0_pay2 (k0_pay1 (scoreAt m c)) := by
  refine (dats m 0 c).arrAt_eq_of_after_last 0 t0_0 (by decide +kernel) _ fun j => ?_
  blk_simp
  rw [after0_0]
  unfold outsAt0 out0_A_0
  frame_out
  simp only [fun v inb w => copied (κ := .tc) (sp := .vmem) (S := S32) (e := .f32) v z1 inb w,
    fun v inb w => copied (κ := .tc) (sp := .vmem) (S := S32) (e := .i32) v z1 inb w,
    fun v inb w => copied (κ := .tc) (sp := .vmem) (S := S16) (e := .f32) v z1 inb w,
    fun v inb w => copied (κ := .tc) (sp := .vmem) (S := S64) (e := .f32) v z1 inb w,
    fun v inb w => copied (κ := .tc) (sp := .vmem) (S := S8) (e := .f32) v z1 inb w,
    fun v inb w => copied (κ := .tc) (sp := .vmem) (S := S1) (e := .f32) v z1 inb w,
    fun v inb w => copied (κ := .tc) (sp := .vmem) (S := S24) (e := .f32) v z1 inb w,
    fun v inb w => copied (κ := .tc) (sp := .vmem) (S := S32x128) (e := .f32) v z2 inb w,
    fun v inb w => copied (κ := .tc) (sp := .vmem) (S := S16x64) (e := .f32) v z2 inb w,
    fun v inb w => copied (κ := .tc) (sp := .vmem) (S := S16x128) (e := .f32) v z2 inb w,
    fun v inb w => copied (κ := .tc) (sp := .vmem) (S := S16x256) (e := .f32) v z2 inb w,
    fun v inb w => copied (κ := .tc) (sp := .vmem) (S := S16x16) (e := .f32) v z2 inb w,
    fun v inb w => copied (κ := .tc) (sp := .vmem) (S := S16x32) (e := .f32) v z2 inb w,
    fun v inb w => copied (κ := .tc) (sp := .vmem) (S := S16x48) (e := .f32) v z2 inb w,
    fun v inb w => copied (κ := .tc) (sp := .vmem) (S := S64x144) (e := .f32) v z2 inb w,
    fun v inb w => copied (κ := .tc) (sp := .vmem) (S := S32x80) (e := .f32) v z2 inb w,
    fun v inb w => copied (κ := .tc) (sp := .vmem) (S := S8x32) (e := .f32) v z2 inb w]
  rfl

end Cert.KernelIdeal.Hand

end
-- ==== Proof.Spec.lean ====
/- The mathematics both programs compute, for one sample: dense layers over the extended reals, the leaky rectifier,
   and the chain of layers that ends in one score. -/
module

public import Idealize.ShloMosaic.Lib.Pointwise

@[expose] public section

noncomputable section

namespace Cert.Spec

open Idealize.ShloMosaic

/-- The leaky rectifier: `x` where it is positive, the slope times `x` elsewhere. The slope is the real number the word
    of 0.2 stands for. -/
def leaky (x : EReal) : EReal := if 0 < x then x else Ideal.ofBits FTy.f32 0x3E4CCCCD#32 * x

/-- A dense layer: output `o` is the sum over the inputs of input times weight, plus the bias. -/
def dense {p n : ℕ} (x : Fin p → EReal) (W : Fin p → Fin n → EReal) (d : Fin n → EReal) (o : Fin n) : EReal :=
  ∑ k, x k * W k o + d o

/-- A dense layer on two vectors joined end to end: the first rows of the weights meet `x`, the others `y`. -/
def dense2 {p q n : ℕ} (x : Fin p → EReal) (y : Fin q → EReal) (W : Fin (p + q) → Fin n → EReal) (d : Fin n → EReal) (o : Fin n) :
    EReal :=
  (∑ k, x k * W (Fin.castAdd q k) o + ∑ k, y k * W (Fin.natAdd p k) o) + d o

/-- Two vectors joined end to end. -/
def join {p q : ℕ} (x : Fin p → EReal) (y : Fin q → EReal) (k : Fin (p + q)) : EReal :=
  if h : k.val < p then x ⟨k.val, h⟩ else y ⟨k.val - p, by omega⟩

/-- A dense layer on joined vectors is the dense layer on the two. -/
theorem dense_join {p q n : ℕ} (x : Fin p → EReal) (y : Fin q → EReal) (W : Fin (p + q) → Fin n → EReal) (d : Fin n → EReal) (o : Fin n) :
    dense (join x y) W d o = dense2 x y W d o := by
  unfold dense dense2
  rw [Fin.sum_univ_add]
  refine congrArg (· + d o) (congrArg₂ (· + ·) (Finset.sum_congr rfl fun k _ => ?_) (Finset.sum_congr rfl fun k _ => ?_))
  · unfold join; rw [dif_pos (show (Fin.castAdd q k).val < p from k.isLt)]; rfl
  · unfold join
    rw [dif_neg (show ¬(Fin.natAdd p k).val < p by simp)]
    exact congrArg (· * _) (congrArg y (Fin.ext (by simp)))

/-- The second layer's value before the rectifier. -/
def deep1 (z : Fin 128 → EReal) (c0 c1 : Fin 16 → EReal) (U0 : Fin 144 → Fin 64 → EReal) (d0 : Fin 64 → EReal)
    (U1 : Fin 80 → Fin 32 → EReal) (d1 : Fin 32 → EReal) : Fin 32 → EReal :=
  dense2 (p := 64) (q := 16) (fun k => leaky (dense2 (p := 128) (q := 16) z c0 U0 d0 k)) c1 U1 d1

/-- The last three layers: from the second layer's value to the score. -/
def deep4 (a1 : Fin 32 → EReal) (c2 c3 c4 : Fin 16 → EReal) (U2 : Fin 48 → Fin 16 → EReal) (d2 : Fin 16 → EReal)
    (U3 : Fin 32 → Fin 8 → EReal) (d3 : Fin 8 → EReal) (U4 : Fin 24 → Fin 1 → EReal) (d4 : Fin 1 → EReal) : EReal :=
  dense2 (p := 8) (q := 16)
    (fun k => leaky (dense2 (p := 16) (q := 16)
      (fun k => leaky (dense2 (p := 32) (q := 16) (fun k => leaky (a1 k)) c2 U2 d2 k)) c3 U3 d3 k)) c4 U4 d4 0

/-- Three vectors of 16 joined end to end. -/
def cat3 (x y w : Fin 16 → EReal) (k : Fin 48) : EReal :=
  if h : k.val < 16 then x ⟨k.val, h⟩ else if h' : k.val - 16 < 16 then y ⟨k.val - 16, h'⟩ else w ⟨k.val - 16 - 16, by omega⟩

/-- The score of one sample: `z` its latents, `es`, `et`, `ec` the embeddings of its study, task and contrast, then the
    weights and biases of the five content layers and of the five layers on the nodes. -/
def sampleScore (z : Fin 128 → EReal) (es et ec : Fin 16 → EReal)
    (W0 : Fin 16 → Fin 16 → EReal) (b0 : Fin 16 → EReal) (W1 : Fin 32 → Fin 16 → EReal) (b1 : Fin 16 → EReal)
    (W2 : Fin 48 → Fin 16 → EReal) (b2 : Fin 16 → EReal) (W3 : Fin 48 → Fin 16 → EReal) (b3 : Fin 16 → EReal)
    (W4 : Fin 48 → Fin 16 → EReal) (b4 : Fin 16 → EReal)
    (U0 : Fin 144 → Fin 64 → EReal) (d0 : Fin 64 → EReal) (U1 : Fin 80 → Fin 32 → EReal) (d1 : Fin 32 → EReal)
    (U2 : Fin 48 → Fin 16 → EReal) (d2 : Fin 16 → EReal) (U3 : Fin 32 → Fin 8 → EReal) (d3 : Fin 8 → EReal)
    (U4 : Fin 24 → Fin 1 → EReal) (d4 : Fin 1 → EReal) : EReal :=
  deep4 (deep1 z (dense es W0 b0) (dense2 (p := 16) (q := 16) es et W1 b1) U0 d0 U1 d1)
    (dense (cat3 es et ec) W2 b2) (dense (cat3 es et ec) W3 b3) (dense (cat3 es et ec) W4 b4) U2 d2 U3 d3 U4 d4

end Cert.Spec

end
-- ==== Proof.KernelRow.lean ====
/- The kernel's values at one sample: each stage of its body read at an index, and the score of a sample as the
   mathematics of `Spec`. -/
module

public import proofs.«01_k».proof.Proof.IdealValue
public import proofs.«01_k».proof.Proof.Spec

@[expose] public section

set_option maxRecDepth 16384

noncomputable section

namespace Cert.KernelIdeal.Row
open Idealize.ShloMosaic Cert.KernelIdeal.Gen Cert.Spec

/-- The first content layer at sample `b`. -/
theorem pay7_at (e : FVec Ideal S32x16 .f32) (W : Vec Ideal S16x16 .f32) (d : Vec Ideal S16 .f32) (b : Fin 32) (o : Fin 16) :
    k0_pay7 e W d (ix2 b o) = dense (fun k => e (ix2 b k)) (fun k o => W (ix2 k o)) (fun o => d (ix1 o)) o := by
  pointwise [k0_pay7]
  rfl
/-- The second content layer at sample `b`: it reads the study and task rows joined. -/
theorem pay8_at (e : FVec Ideal S32x16 .f32) (t : FVec Ideal S32x128 .f32) (E : Vec Ideal S16x128 .f32) (W : Vec Ideal S16x32 .f32)
    (d : Vec Ideal S16 .f32) (b : Fin 32) (o : Fin 16) :
    k0_pay8 e t E W d (ix2 b o) = dense2 (p := 16) (q := 16) (fun k => e (ix2 b k)) (fun k => k0_pay5 t E (ix2 b k)) (fun k o => W (ix2 o k)) (fun o => d (ix1 o)) o := by
  pointwise [k0_pay8]
  rfl
/-- The third content layer at sample `b`: it reads the three rows joined. -/
theorem pay9_at (e : FVec Ideal S32x16 .f32) (t : FVec Ideal S32x128 .f32) (E : Vec Ideal S16x128 .f32) (s : Vec Ideal S32 .i32)
    (E' : Vec Ideal S16x256 .f32) (W : Vec Ideal S16x48 .f32)
    (d : Vec Ideal S16 .f32) (b : Fin 32) (o : Fin 16) :
    k0_pay9 e t E s E' W d (ix2 b o) = dense (fun k => k0_pay6 e t E s E' (ix2 b k)) (fun k o => W (ix2 o k)) (fun o => d (ix1 o)) o := by
  pointwise [k0_pay9]
  rfl
/-- The fourth content layer at sample `b`. -/
theorem pay11_at (e : FVec Ideal S32x16 .f32) (t : FVec Ideal S32x128 .f32) (E : Vec Ideal S16x128 .f32) (s : Vec Ideal S32 .i32)
    (E' : Vec Ideal S16x256 .f32) (W : Vec Ideal S16x48 .f32)
    (d : Vec Ideal S16 .f32) (b : Fin 32) (o : Fin 16) :
    k0_pay11 (k0_pay10 e t E s E' W) d (ix2 b o) = dense (fun k => k0_pay6 e t E s E' (ix2 b k)) (fun k o => W (ix2 o k)) (fun o => d (ix1 o)) o := by
  pointwise [k0_pay10, k0_pay11]
  rfl
/-- The fifth content layer at sample `b`. -/
theorem pay12_at (x : FVec Ideal S32x48 .f32) (W : Vec Ideal S16x48 .f32)
    (d : Vec Ideal S16 .f32) (b : Fin 32) (o : Fin 16) :
    k0_pay12 x W d (ix2 b o) = dense (fun k => x (ix2 b k)) (fun k o => W (ix2 o k)) (fun o => d (ix1 o)) o := by
  pointwise [k0_pay12]
  rfl
/-- The first 32 entries of the third node layer's input: the second node layer, rectified. -/
theorem pay13_lo (c0 c1 c2 : FVec Ideal S32x16 .f32) (z : Vec Ideal S32x128 .f32) (U0 : Vec Ideal S64x144 .f32) (d0 : Vec Ideal S64 .f32)
   (U1 : Vec Ideal S32x80 .f32) (d1 : Vec Ideal S32 .f32) (b : Fin 32) (k : Fin 32) :
    k0_pay13 c0 c1 c2 z U0 d0 U1 d1 (ix2 b (Fin.castAdd 16 k)) =
      leaky (deep1 (fun k => z (ix2 b k)) (fun k => c0 (ix2 b k)) (fun k => c1 (ix2 b k)) (fun k o => U0 (ix2 o k)) (fun o => d0 (ix1 o))
        (fun k o => U1 (ix2 o k)) (fun o => d1 (ix1 o)) k) := by
  pointwise [k0_pay13]
  rw [dif_pos (show (Fin.castAdd 16 k).val < 32 from k.isLt)]
  rfl
/-- The last 16 entries of the third node layer's input: the content. -/
theorem pay13_hi (c0 c1 c2 : FVec Ideal S32x16 .f32) (z : Vec Ideal S32x128 .f32) (U0 : Vec Ideal S64x144 .f32) (d0 : Vec Ideal S64 .f32)
   (U1 : Vec Ideal S32x80 .f32) (d1 : Vec Ideal S32 .f32) (b : Fin 32) (k : Fin 16) :
    k0_pay13 c0 c1 c2 z U0 d0 U1 d1 (ix2 b (Fin.natAdd 32 k)) = c2 (ix2 b k) := by
  pointwise [k0_pay13]
  rw [dif_neg (by simp)]
  exact congrArg c2 (congrArg (ix2 b) (Fin.ext (by simp)))
/-- The score of sample `b`, from the third node layer's input. -/
theorem pay14_at (c3 c4 : FVec Ideal S32x16 .f32) (x : FVec Ideal S32x48 .f32) (U2 : Vec Ideal S16x48 .f32) (d2 : Vec Ideal S16 .f32)
   (U3 : Vec Ideal S8x32 .f32) (d3 : Vec Ideal S8 .f32) (U4 : Vec Ideal S24 .f32) (d4 : Vec Ideal S1 .f32) (a1 : Fin 32 → EReal) (c2 : Fin 16 → EReal)
   (b : Fin 32) (hlo : ∀ k, x (ix2 b (Fin.castAdd 16 k)) = leaky (a1 k)) (hhi : ∀ k, x (ix2 b (Fin.natAdd 32 k)) = c2 k) :
    k0_pay14 c3 c4 x U2 d2 U3 d3 U4 d4 (ix2 b 0) = deep4 a1 c2 (fun k => c3 (ix2 b k)) (fun k => c4 (ix2 b k))
      (fun k o => U2 (ix2 o k)) (fun o => d2 (ix1 o)) (fun k o => U3 (ix2 o k)) (fun o => d3 (ix1 o)) (fun k o => U4 (ix1 k)) (fun o => d4 (ix1 o)) := by
  pointwise [k0_pay14]
  have hs : ∀ o : Fin 16, (∑ k, x (ix2 b k) * U2 (ix2 o k))
      = ∑ k : Fin 32, leaky (a1 k) * U2 (ix2 o (Fin.castAdd 16 k)) + ∑ k : Fin 16, c2 k * U2 (ix2 o (Fin.natAdd 32 k)) := fun o => by
    rw [Fin.sum_univ_add (a := 32) (b := 16)]
    exact congrArg₂ (· + ·) (Finset.sum_congr rfl fun k _ => by rw [hlo]) (Finset.sum_congr rfl fun k _ => by rw [hhi])
  simp only [hs]
  rfl

/-- A one-hot sum picks the row the word names. -/
theorem onehot {n : ℕ} (hn : n ≤ 2 ^ 31) (w : BitVec 32) (r : Fin n) (hw : w = BitVec.ofNat 32 r.val) (f : Fin n → EReal) :
    (∑ x : Fin n, FloatOps.sitofp (F := Ideal) FTy.f32 (BitVec.setWidth 32 (IntOp.cmpi CmpIPredicate.eq (BitVec.ofNat 32 x.val) w)) * f x : EReal)
      = f r := by
  rw [Finset.sum_eq_single r]
  · have e : IntOp.cmpi CmpIPredicate.eq (BitVec.ofNat 32 r.val) w = 1#1 := by rw [hw]; simp [IntOp.cmpi]
    rw [e]
    have h1 : FloatOps.sitofp (F := Ideal) FTy.f32 (BitVec.setWidth 32 1#1) = (1 : EReal) := by
      show (((BitVec.setWidth 32 1#1).toInt : ℝ) : EReal) = 1
      norm_num
    rw [h1, one_mul]
  · intro x _ hx
    have e : IntOp.cmpi CmpIPredicate.eq (BitVec.ofNat 32 x.val) w = 0#1 := by
      have hne : BitVec.ofNat 32 x.val ≠ w := fun h => hx (Fin.ext (by
        have h' := congrArg BitVec.toNat (h.trans hw)
        have := x.isLt; have := r.isLt
        simp only [BitVec.toNat_ofNat] at h'
        omega))
      show BitVec.ofBool (BitVec.ofNat 32 x.val == w) = 0#1
      rw [beq_eq_false_iff_ne.2 hne]; rfl
    rw [e]
    have h0 : FloatOps.sitofp (F := Ideal) FTy.f32 (BitVec.setWidth 32 0#1) = (0 : EReal) := by
      show (((BitVec.setWidth 32 0#1).toInt : ℝ) : EReal) = 0
      norm_num
    rw [h0, zero_mul]
  · exact fun h => absurd (Finset.mem_univ r) h

/-- The study rows: sample `b` gets the row of its study. -/
theorem pay3_at (s : Vec Ideal S32 .i32) (e : Vec Ideal S16x64 .f32) (b : Fin 32) (k : Fin 16) (r : Fin 64)
    (hr : s (ix1 b) = BitVec.ofNat 32 r.val) : k0_pay3 s e (ix2 b k) = e (ix2 k r) := by
  pointwise [k0_pay3]
  exact onehot (by norm_num) _ r hr fun x => e (ix2 k x)

/-- The task rows: sample `b` gets the row of its task. -/
theorem pay5_at (s : Vec Ideal S32 .i32) (e : Vec Ideal S16x128 .f32) (b : Fin 32) (k : Fin 16) (r : Fin 128)
    (hr : s (ix1 b) = BitVec.ofNat 32 r.val) : k0_pay5 (k0_pay4 s) e (ix2 b k) = e (ix2 k r) := by
  pointwise [k0_pay5, k0_pay4]
  exact onehot (by norm_num) _ r hr fun x => e (ix2 k x)

/-- The three rows joined: sample `b` gets its study's, its task's and its contrast's. -/
theorem pay6_at (e : FVec Ideal S32x16 .f32) (t : FVec Ideal S32x128 .f32) (E : Vec Ideal S16x128 .f32) (s : Vec Ideal S32 .i32)
    (E' : Vec Ideal S16x256 .f32) (b : Fin 32) (o : Fin 48) (r : Fin 256) (hr : s (ix1 b) = BitVec.ofNat 32 r.val) :
    k0_pay6 e t E s E' (ix2 b o)
      = cat3 (fun k => e (ix2 b k)) (fun k => k0_pay5 t E (ix2 b k)) (fun k => E' (ix2 k r)) o := by
  pointwise [k0_pay6]
  exact dite_congr rfl (fun _ => rfl) fun _ => dite_congr rfl (fun _ => rfl) fun _ => onehot (by norm_num) _ r hr fun x => E' (ix2 _ x)

/-- The kernel's score of sample `b` is the sample's score. -/
theorem score_at (z : Vec Ideal S32x128 .f32) (st ta co : Vec Ideal S32 .i32)
    (est : Vec Ideal S16x64 .f32) (ett : Vec Ideal S16x128 .f32) (ect : Vec Ideal S16x256 .f32)
    (w0 : Vec Ideal S16x16 .f32) (w1 : Vec Ideal S16x32 .f32) (w2 w3 w4 : Vec Ideal S16x48 .f32)
    (b0 b1 b2 b3 b4 : Vec Ideal S16 .f32)
    (u0 : Vec Ideal S64x144 .f32) (d0 : Vec Ideal S64 .f32) (u1 : Vec Ideal S32x80 .f32) (d1 : Vec Ideal S32 .f32)
    (u2 : Vec Ideal S16x48 .f32) (d2 : Vec Ideal S16 .f32) (u3 : Vec Ideal S8x32 .f32) (d3 : Vec Ideal S8 .f32)
    (u4 : Vec Ideal S24 .f32) (d4 : Vec Ideal S1 .f32) (b : Fin 32) (rs : Fin 64) (rt : Fin 128) (rc : Fin 256)
    (hs : st (ix1 b) = BitVec.ofNat 32 rs.val) (ht : ta (ix1 b) = BitVec.ofNat 32 rt.val) (hc : co (ix1 b) = BitVec.ofNat 32 rc.val) :
    Hand.score z st ta co est ett ect w0 w1 w2 w3 w4 b0 b1 b2 b3 b4 u0 d0 u1 d1 u2 d2 u3 d3 u4 d4 (ix2 b 0)
      = sampleScore (fun k => z (ix2 b k)) (fun k => est (ix2 k rs)) (fun k => ett (ix2 k rt)) (fun k => ect (ix2 k rc))
          (fun k o => w0 (ix2 k o)) (fun o => b0 (ix1 o)) (fun k o => w1 (ix2 o k)) (fun o => b1 (ix1 o))
          (fun k o => w2 (ix2 o k)) (fun o => b2 (ix1 o)) (fun k o => w3 (ix2 o k)) (fun o => b3 (ix1 o))
          (fun k o => w4 (ix2 o k)) (fun o => b4 (ix1 o)) (fun k o => u0 (ix2 o k)) (fun o => d0 (ix1 o))
          (fun k o => u1 (ix2 o k)) (fun o => d1 (ix1 o)) (fun k o => u2 (ix2 o k)) (fun o => d2 (ix1 o))
          (fun k o => u3 (ix2 o k)) (fun o => d3 (ix1 o)) (fun k _ => u4 (ix1 k)) (fun o => d4 (ix1 o)) := by
  unfold Hand.score sampleScore
  rw [pay14_at _ _ _ _ _ _ _ _ _ _ _ b (fun k => pay13_lo _ _ _ _ _ _ _ _ b k) (fun k => pay13_hi _ _ _ _ _ _ _ _ b k)]
  simp only [pay7_at, pay8_at, pay9_at, pay11_at, pay12_at, pay6_at _ _ _ _ _ b _ rc hc, pay3_at _ _ b _ rs hs, pay5_at _ _ b _ rt ht]

end Cert.KernelIdeal.Row
end
-- ==== Proof.IdealResult.lean ====
/- The kernel's result: after the run, every entry of the result array at sample `b` is the sample's score. -/
module

public import proofs.«01_k».proof.Proof.KernelRow
public import Idealize.ShloMosaic.Lib.Claim

@[expose] public section

set_option maxRecDepth 16384

noncomputable section

open Idealize.ShloMosaic Idealize.ShloMosaic.TcCoe Idealize.SL.Sem

namespace Cert.KernelIdeal.Hand

open Cert.KernelIdeal.Gen Cert.Spec

variable (m : (ℓ : Loc nD τ sig) → Buf (Elt Ideal) ℓ) (ρ : Dev nD → PrngReg)

/-- The result array: the scores over the samples' blocks, reshaped. -/
def resultAt (c : Dev nD) : FVec Ideal S32x65536x1 .f32 :=
  shapeCast S32x65536x1 (k0_pay2 (k0_pay1 (scoreAt m c))) shapeCasts_S32x512x128_S32x65536x1

/-- The lines after the region leave the reshaped scores in the result. -/
theorem tail_result (c : Dev nD) :
    Pipeline.afterTail₀ cfgs (dats m) 0 (V0 m) [hostOps1] c main_v13 = resultAt m c := by
  unfold Pipeline.afterTail₀ resultAt
  rw [← final m c]
  simp only [List.flatten_cons, List.flatten_nil, List.append_nil, hostOps1, StableHlo.after_cons, StableHlo.after_nil]
  rw [StableHlo.reshape_result']
  exact congrArg (fun x => shapeCast S32x65536x1 x shapeCasts_S32x512x128_S32x65536x1)
    (Pipeline.withArrays_arr (cfgs 0).spec (fun a b _ => Subsingleton.elim a b) c (V0 m c) (fun w => (dats m 0 c).arrAt w (cfgs 0).N) 0)

/-- Every entry of the result at sample `b` is the sample's score. -/
theorem result_at (c : Dev nD) (b : Fin 32) (n : Fin 65536) : resultAt m c (ix3 b n 0) = scoreAt m c (ix2 b 0) := by
  unfold resultAt
  pointwise [k0_pay2, k0_pay1]

/-- The weights of the last layer as the region finds them: the column, flattened. -/
theorem entry_v0 (c : Dev nD) (k : Fin 24) : V m c main_v0 (ix1 k) = m ((c.tc : Thread nD τ).loc main_arg25) (ix2 k 0) := by
  show StableHlo.after hostOps0 (fun b => m (c, b)) (Proc.devRef .tc main_v0) (ix1 k) = _
  entry_read
  pointwise

/-- Buffer `main_v1` as the region finds it: argument 4 transposed. -/
theorem entry_v1 (c : Dev nD) (i : Fin 16) (j : Fin 64) :
    V m c main_v1 (ix2 i j) = m ((c.tc : Thread nD τ).loc main_arg4) (ix2 j i) := by
  show StableHlo.after hostOps0 (fun b => m (c, b)) (Proc.devRef .tc main_v1) (ix2 i j) = _
  entry_read
  pointwise

/-- Buffer `main_v2` as the region finds it: argument 5 transposed. -/
theorem entry_v2 (c : Dev nD) (i : Fin 16) (j : Fin 128) :
    V m c main_v2 (ix2 i j) = m ((c.tc : Thread nD τ).loc main_arg5) (ix2 j i) := by
  show StableHlo.after hostOps0 (fun b => m (c, b)) (Proc.devRef .tc main_v2) (ix2 i j) = _
  entry_read
  pointwise

/-- Buffer `main_v3` as the region finds it: argument 6 transposed. -/
theorem entry_v3 (c : Dev nD) (i : Fin 16) (j : Fin 256) :
    V m c main_v3 (ix2 i j) = m ((c.tc : Thread nD τ).loc main_arg6) (ix2 j i) := by
  show StableHlo.after hostOps0 (fun b => m (c, b)) (Proc.devRef .tc main_v3) (ix2 i j) = _
  entry_read
  pointwise

/-- Buffer `main_v4` as the region finds it: argument 9 transposed. -/
theorem entry_v4 (c : Dev nD) (i : Fin 16) (j : Fin 32) :
    V m c main_v4 (ix2 i j) = m ((c.tc : Thread nD τ).loc main_arg9) (ix2 j i) := by
  show StableHlo.after hostOps0 (fun b => m (c, b)) (Proc.devRef .tc main_v4) (ix2 i j) = _
  entry_read
  pointwise

/-- Buffer `main_v5` as the region finds it: argument 11 transposed. -/
theorem entry_v5 (c : Dev nD) (i : Fin 16) (j : Fin 48) :
    V m c main_v5 (ix2 i j) = m ((c.tc : Thread nD τ).loc main_arg11) (ix2 j i) := by
  show StableHlo.after hostOps0 (fun b => m (c, b)) (Proc.devRef .tc main_v5) (ix2 i j) = _
  entry_read
  pointwise

/-- Buffer `main_v6` as the region finds it: argument 13 transposed. -/
theorem entry_v6 (c : Dev nD) (i : Fin 16) (j : Fin 48) :
    V m c main_v6 (ix2 i j) = m ((c.tc : Thread nD τ).loc main_arg13) (ix2 j i) := by
  show StableHlo.after hostOps0 (fun b => m (c, b)) (Proc.devRef .tc main_v6) (ix2 i j) = _
  entry_read
  pointwise

/-- Buffer `main_v7` as the region finds it: argument 15 transposed. -/
theorem entry_v7 (c : Dev nD) (i : Fin 16) (j : Fin 48) :
    V m c main_v7 (ix2 i j) = m ((c.tc : Thread nD τ).loc main_arg15) (ix2 j i) := by
  show StableHlo.after hostOps0 (fun b => m (c, b)) (Proc.devRef .tc main_v7) (ix2 i j) = _
  entry_read
  pointwise

/-- Buffer `main_v8` as the region finds it: argument 17 transposed. -/
theorem entry_v8 (c : Dev nD) (i : Fin 64) (j : Fin 144) :
    V m c main_v8 (ix2 i j) = m ((c.tc : Thread nD τ).loc main_arg17) (ix2 j i) := by
  show StableHlo.after hostOps0 (fun b => m (c, b)) (Proc.devRef .tc main_v8) (ix2 i j) = _
  entry_read
  pointwise

/-- Buffer `main_v9` as the region finds it: argument 19 transposed. -/
theorem entry_v9 (c : Dev nD) (i : Fin 32) (j : Fin 80) :
    V m c main_v9 (ix2 i j) = m ((c.tc : Thread nD τ).loc main_arg19) (ix2 j i) := by
  show StableHlo.after hostOps0 (fun b => m (c, b)) (Proc.devRef .tc main_v9) (ix2 i j) = _
  entry_read
  pointwise

/-- Buffer `main_v10` as the region finds it: argument 21 transposed. -/
theorem entry_v10 (c : Dev nD) (i : Fin 16) (j : Fin 48) :
    V m c main_v10 (ix2 i j) = m ((c.tc : Thread nD τ).loc main_arg21) (ix2 j i) := by
  show StableHlo.after hostOps0 (fun b => m (c, b)) (Proc.devRef .tc main_v10) (ix2 i j) = _
  entry_read
  pointwise

/-- Buffer `main_v11` as the region finds it: argument 23 transposed. -/
theorem entry_v11 (c : Dev nD) (i : Fin 8) (j : Fin 32) :
    V m c main_v11 (ix2 i j) = m ((c.tc : Thread nD τ).loc main_arg23) (ix2 j i) := by
  show StableHlo.after hostOps0 (fun b => m (c, b)) (Proc.devRef .tc main_v11) (ix2 i j) = _
  entry_read
  pointwise

/-- The score of sample `b` over the arguments, its study, task and contrast being the rows `rs`, `rt` and `rc`. -/
theorem scoreAt_args (c : Dev nD) (b : Fin 32) (rs : Fin 64) (rt : Fin 128) (rc : Fin 256)
    (hs : m ((c.tc : Thread nD τ).loc main_arg1) (ix1 b) = BitVec.ofNat 32 rs.val)
    (ht : m ((c.tc : Thread nD τ).loc main_arg2) (ix1 b) = BitVec.ofNat 32 rt.val)
    (hc : m ((c.tc : Thread nD τ).loc main_arg3) (ix1 b) = BitVec.ofNat 32 rc.val) :
    scoreAt m c (ix2 b 0) = sampleScore (fun k => (m ((c.tc : Thread nD τ).loc main_arg0)) (ix2 b k)) (fun k => (m ((c.tc : Thread nD τ).loc main_arg4)) (ix2 rs k)) (fun k => (m ((c.tc : Thread nD τ).loc main_arg5)) (ix2 rt k))
      (fun k => (m ((c.tc : Thread nD τ).loc main_arg6)) (ix2 rc k))
      (fun k o => (m ((c.tc : Thread nD τ).loc main_arg7)) (ix2 k o)) (fun o => (m ((c.tc : Thread nD τ).loc main_arg8)) (ix1 o))
      (fun k o => (m ((c.tc : Thread nD τ).loc main_arg9)) (ix2 k o)) (fun o => (m ((c.tc : Thread nD τ).loc main_arg10)) (ix1 o))
      (fun k o => (m ((c.tc : Thread nD τ).loc main_arg11)) (ix2 k o)) (fun o => (m ((c.tc : Thread nD τ).loc main_arg12)) (ix1 o))
      (fun k o => (m ((c.tc : Thread nD τ).loc main_arg13)) (ix2 k o)) (fun o => (m ((c.tc : Thread nD τ).loc main_arg14)) (ix1 o))
      (fun k o => (m ((c.tc : Thread nD τ).loc main_arg15)) (ix2 k o)) (fun o => (m ((c.tc : Thread nD τ).loc main_arg16)) (ix1 o))
      (fun k o => (m ((c.tc : Thread nD τ).loc main_arg17)) (ix2 k o)) (fun o => (m ((c.tc : Thread nD τ).loc main_arg18)) (ix1 o))
      (fun k o => (m ((c.tc : Thread nD τ).loc main_arg19)) (ix2 k o)) (fun o => (m ((c.tc : Thread nD τ).loc main_arg20)) (ix1 o))
      (fun k o => (m ((c.tc : Thread nD τ).loc main_arg21)) (ix2 k o)) (fun o => (m ((c.tc : Thread nD τ).loc main_arg22)) (ix1 o))
      (fun k o => (m ((c.tc : Thread nD τ).loc main_arg23)) (ix2 k o)) (fun o => (m ((c.tc : Thread nD τ).loc main_arg24)) (ix1 o))
      (fun k o => (m ((c.tc : Thread nD τ).loc main_arg25)) (ix2 k o)) (fun o => (m ((c.tc : Thread nD τ).loc main_arg26)) (ix1 o)) := by
  unfold scoreAt
  rw [Row.score_at _ _ _ _ _ _ _ _ _ _ _ _ _ _ _ _ _ _ _ _ _ _ _ _ _ _ _ b rs rt rc
    ((congrFun (V_main_arg1 m c) _).trans hs) ((congrFun (V_main_arg2 m c) _).trans ht) ((congrFun (V_main_arg3 m c) _).trans hc)]
  congr 1
  · exact funext fun k => entry_v1 m c k _
  · exact funext fun k => entry_v2 m c k _
  · exact funext fun k => entry_v3 m c k _
  · exact funext fun k => funext fun o => entry_v4 m c o k
  · exact funext fun k => funext fun o => entry_v5 m c o k
  · exact funext fun k => funext fun o => entry_v6 m c o k
  · exact funext fun k => funext fun o => entry_v7 m c o k
  · exact funext fun k => funext fun o => entry_v8 m c o k
  · exact funext fun k => funext fun o => entry_v9 m c o k
  · exact funext fun k => funext fun o => entry_v10 m c o k
  · exact funext fun k => funext fun o => entry_v11 m c o k
  · exact funext fun k => funext fun o => (entry_v0 m c k).trans (by rw [Subsingleton.elim o 0])

/-- Every run of the kernel ends with the result array as computed, and with every argument array as launched. -/
theorem run_value : θ_run defs (onTc (τ := τ) (main (F := Ideal))) ⟨m, fun _ => 0, ρ⟩ (fun r => ∀ c : Dev nD,
    r.2.mem ((c.tc : Thread nD τ).loc main_v13) = resultAt m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)) :=
  (θ_run defs _ _).mono (fun r h c => ⟨((h c).2 main_v13 (Pipeline.mem_restRefs_of main_v13 (by decide) (by decide))).trans (tail_result m c),
    args_kept m (dats m) r h c⟩) (run_main m ρ)

end Cert.KernelIdeal.Hand

end
-- ==== Proof.RefTake.lean ====
/- Rows taken by an index array, as the reference takes them: an index below zero counts from the end, a row out of range
   is filled, and in range the row itself is read. Stated once, for the two layouts in which it is used: rows of a table,
   and the middle axis of a three-dimensional array. -/
module

public import Idealize.ShloMosaic.Lib.Pointwise
public import Idealize.ShloMosaic.Lib.ReduceAll
public import Idealize.ShloMosaic.Lib.Routing.Ops

@[expose] public section

set_option maxRecDepth 16384

noncomputable section

namespace Cert.RefTake

open Idealize.ShloMosaic Idealize.ShloMosaic.Routing

/-- The shape of one element. -/
abbrev S0 : Shape := ⟨0, ![]⟩

/-- A one-axis index is the index of its coordinate. -/
theorem eta1 {n : ℕ} (q : (shape1 n).Idx) : q = ix1 (n0 := n) (q 0) := by
  funext d; match d with | ⟨0, _⟩ => rfl
/-- A two-axis index is the index of its coordinates. -/
theorem eta2 {n k : ℕ} (q : (shape2 n k).Idx) : q = ix2 (n0 := n) (n1 := k) (q 0) (q 1) := by
  funext d; match d with | ⟨0, _⟩ => rfl | ⟨1, _⟩ => rfl
/-- A three-axis index is the index of its coordinates. -/
theorem eta3 {n k l : ℕ} (q : (shape3 n k l).Idx) : q = ix3 (n0 := n) (n1 := k) (n2 := l) (q 0) (q 1) (q 2) := by
  funext d; match d with | ⟨0, _⟩ => rfl | ⟨1, _⟩ => rfl | ⟨2, _⟩ => rfl

/-- The words of an index array lie in `[0, n)`. -/
def InRange {M : ℕ} (x : IVec (shape1 M) 32) (n : ℕ) : Prop := ∀ i : Fin M, (x (ix1 i)).toNat < n

/-- The column of indices: with no index below zero it is the index array itself. -/
theorem column_at {M : ℕ} (x : IVec (shape1 M) 32) (n : ℕ) (hn : n < 2 ^ 31) (hx : InRange x n) (w : BitVec 32)
    (h0 : S0.BroadcastsInDim (shape1 M) ![]) (h1 : (shape1 M).BroadcastsInDim (shape2 M 1) ![0]) (i : Fin M) (j : Fin 1) :
    broadcastInDim (shape2 M 1) ![0] h1 (select (cmpi .slt x (broadcastInDim (shape1 M) ![] h0 (constantI S0 32 0#32)))
      (addi x (broadcastInDim (shape1 M) ![] h0 (constantI S0 32 w))) x) (ix2 i j) = x (ix1 i) := by
  have e : ∀ q : (shape1 M).Idx, select (cmpi .slt x (broadcastInDim (shape1 M) ![] h0 (constantI S0 32 0#32)))
      (addi x (broadcastInDim (shape1 M) ![] h0 (constantI S0 32 w))) x q = x q := fun q => by
    show Scalar.select (IntOp.cmpi .slt (x q) 0#32) _ (x q) = x q
    have hq : (x q).toNat < n := (congrArg (fun t => (x t).toNat) (eta1 q)).trans_lt (hx _)
    have hc : IntOp.cmpi .slt (x q) 0#32 = 0#1 := by
      refine (BitVec.eq_zero_or_eq_one _).resolve_right fun h => ?_
      have h' := IntOp.cmpi_slt.1 h
      rw [BitVec.toInt_eq_toNat_of_lt (by omega)] at h'
      simp at h'
      omega
    rw [hc]; rfl
  have hi : ∀ q : (shape1 M).Idx, (q 0).val = i.val → x q = x (ix1 i) := fun q h => by
    exact (congrArg x (eta1 q)).trans (congrArg (fun t => x (ix1 t)) (Fin.ext h))
  refine (e _).trans (hi _ ?_)
  show (if h : (shape1 M).size 0 = 1 then (⟨0, _⟩ : Fin ((shape1 M).size 0)) else ⟨(ix2 i j 0).val, _⟩).val = i.val
  have hM : (shape1 M).size 0 = M := rfl
  split
  · have := i.isLt
    show 0 = i.val
    omega
  · rfl

/-- No index of the column is out of range. -/
theorem mask_at {M : ℕ} (x : IVec (shape1 M) 32) (n : ℕ) (hn : n < 2 ^ 31) (hx : InRange x n) (w : BitVec 32) (hw : w = BitVec.ofNat 32 (n - 1))
    (col : IVec (shape2 M 1) 32) (hcol : ∀ i j, col (ix2 i j) = x (ix1 i))
    (h0 : S0.BroadcastsInDim (shape2 M 1) ![]) (h1 : (shape2 1 1).BroadcastsInDim (shape2 M 1) ![0, 1])
    (h2 : (shape1 1).BroadcastsInDim (shape2 1 1) ![1]) (hr : (shape2 M 1).ReducesTo [1] (shape1 M)) (hS : 0 < S0.numel) (i : (shape1 M).Idx) :
    Host.reduce IntOp.andi (andi (cmpi .sge col (broadcastInDim (shape2 M 1) ![] h0 (constantI S0 32 0#32)))
      (cmpi .sle col (broadcastInDim (shape2 M 1) ![0, 1] h1 (broadcastInDim (shape2 1 1) ![1] h2 (constantI (shape1 1) 32 w)))))
      (constantI S0 1 1#1) hr hS i = 1#1 := by
  refine Host.reduce_andi_one _ _ hr hS i rfl fun p => ?_
  have hc : col p = x (ix1 (p 0)) := (congrArg col (eta2 p)).trans (hcol _ _)
  have hq : (x (ix1 (p 0))).toNat < n := hx (p 0)
  have hi : (x (ix1 (p 0))).toInt = (x (ix1 (p 0))).toNat := BitVec.toInt_eq_toNat_of_lt (by omega)
  show IntOp.andi (IntOp.cmpi .sge (col p) 0#32) (IntOp.cmpi .sle (col p) w) = 1#1
  rw [hc, IntOp.andi_eq_one, IntOp.cmpi_sge, IntOp.cmpi_sle, hw, hi, StableHlo.Predicate.toInt_ofNat_small (n - 1) (by omega)]
  constructor
  · simp
  · omega

/-- Rows of a table: result `(i, k)` is the table's entry `k` of the row index `i` names. -/
theorem rows_at {N K M : ℕ} (hN : N < 2 ^ 31) (x : IVec (shape1 M) 32) (hx : InRange x N) (col : IVec (shape2 M 1) 32) (hcol : ∀ i j, col (ix2 i j) = x (ix1 i))
    (mask : IVec (shape1 M) 1) (hm : ∀ i, mask i = 1#1) (hb : (shape1 M).BroadcastsInDim (shape2 M K) ![0])
    (d : GatherDims (shape2 N K) (shape2 M 1) (shape2 M K)) (hoff : d.offsetDims = [1])
    (hcoll : d.collapsedSliceDims = [0]) (hob : d.operandBatchingDims = [])
    (hsim : d.startIndexMap = [0]) (hivd : d.indexVectorDim = 1) (T : FVec Ideal (shape2 N K) .f32) (nan : FVec Ideal (shape2 M K) .f32) (i : Fin M) (k : Fin K) (r : Fin N)
    (hr : x (ix1 i) = BitVec.ofNat 32 r.val) :
    select (broadcastInDim (shape2 M K) ![0] hb mask) (Host.gather d T col) nan (ix2 i k) = T (ix2 r k) := by
  pointwise
  rw [hm]
  exact gather_row d hoff hcoll hob hsim hivd T col i k r ((hcol i 0).trans hr) (by omega)

/-- The middle axis of an array that is the same along it: whatever the indices, the result is the array's value. -/
theorem middle_at {B N K M : ℕ} (wf) (X : Fin B → Fin K → EReal) (T : FVec Ideal (shape3 B N K) .f32)
    (hT : ∀ b n k, T (ix3 b n k) = X b k) (col : IVec (shape2 M 1) 32) (mask : IVec (shape1 M) 1) (hm : ∀ i, mask i = 1#1)
    (hb : (shape1 M).BroadcastsInDim (shape3 B M K) ![1]) (nan : FVec Ideal (shape3 B M K) .f32) (b : Fin B) (i : Fin M) (k : Fin K) :
    select (broadcastInDim (shape3 B M K) ![1] hb mask)
      (Host.gather (⟨[0, 2], [1], [], [], [1], 1, ![B, 1, K], wf⟩ : GatherDims (shape3 B N K) (shape2 M 1) (shape3 B M K)) T col) nan (ix3 b i k) = X b k := by
  pointwise
  rw [hm]
  show Host.gather _ T col (ix3 b i k) = X b k
  unfold Host.gather
  have h : ∀ q : (shape3 B N K).Idx, (q 0).val = b.val → (q 2).val = k.val → T q = X b k := fun q h0 h2 => by
    exact (congrArg T (eta3 q)).trans ((hT _ _ _).trans (congrArg₂ X (Fin.ext h0) (Fin.ext h2)))
  have hk : (shape3 B N K).kept ([1] ++ []) = [0, 2] := rfl
  have e0 : ∀ X : Fin 3, X = 0 → (ix3 b i k X).val = b.val := fun X h => by subst h; rfl
  have e2 : ∀ X : Fin 3, X = 2 → (ix3 b i k X).val = k.val := fun X h => by subst h; rfl
  refine h _ ?_ ?_
  · show GatherDims.start _ _ _ 0 + GatherDims.batchCoord _ _ 0 + GatherDims.offCoord _ _ 0 = b.val
    rw [GatherDims.batchCoord_eq_zero _ _ _ (List.not_mem_nil), Nat.add_zero]
    unfold GatherDims.start GatherDims.offCoord
    rw [dif_neg (show (0 : Fin 3) ∉ [(1 : Fin 3)] by decide), Nat.zero_add, dif_pos (by
      show (0 : Fin 3) ∈ (shape3 B N K).kept ([1] ++ [])
      rw [hk]; exact (show (0 : Fin 3) ∈ [(0 : Fin 3), 2] by decide))]
    refine e0 _ ?_
    rfl
  · show GatherDims.start _ _ _ 2 + GatherDims.batchCoord _ _ 2 + GatherDims.offCoord _ _ 2 = k.val
    rw [GatherDims.batchCoord_eq_zero _ _ _ (List.not_mem_nil), Nat.add_zero]
    unfold GatherDims.start GatherDims.offCoord
    rw [dif_neg (show (2 : Fin 3) ∉ [(1 : Fin 3)] by decide), Nat.zero_add, dif_pos (by
      show (2 : Fin 3) ∈ (shape3 B N K).kept ([1] ++ [])
      rw [hk]; exact (show (2 : Fin 3) ∈ [(0 : Fin 3), 2] by decide))]
    refine e2 _ ?_
    rfl

end Cert.RefTake

end
-- ==== Proof.IndexRange.lean ====
/- What the precondition says of the index arrays: every index names a row or a node that exists. -/
module

public import proofs.«01_k».proof.Defs
public import proofs.«01_k».proof.Proof.Gen.Pre_indices_in_range
public import proofs.«01_k».proof.Proof.RefTake
public import Idealize.ShloMosaic.Lib.ReduceAll
public import Idealize.ShloMosaic.Lib.WordCmp

@[expose] public section

noncomputable section

namespace Cert.IndexRange

open Idealize.ShloMosaic Idealize.ShloMosaic.TcCoe Idealize.ShloMosaic.Routing Cert.RefTake

/-- An index array whose every word passes both comparisons has its words in `[0, n)`. -/
theorem of_all {M : ℕ} (x : IVec (shape1 M) 32) (n : ℕ) (hn : n < 2 ^ 31) (h0 : S0.BroadcastsInDim (shape1 M) ![])
    (hr : (shape1 M).ReducesTo [0] S0) (hS : 0 < S0.numel) (j : S0.Idx)
    (e : Host.reduce IntOp.andi (andi (cmpi .sge x (broadcastInDim (shape1 M) ![] h0 (constantI S0 32 0#32)))
      (cmpi .slt x (broadcastInDim (shape1 M) ![] h0 (constantI S0 32 (BitVec.ofNat 32 n))))) (constantI S0 1 1#1) hr hS j = 1#1) :
    InRange x n := by
  intro i
  have hi : IntOp.andi (IntOp.cmpi .sge (x (ix1 i)) 0#32) (IntOp.cmpi .slt (x (ix1 i)) (BitVec.ofNat 32 n)) = 1#1 :=
    Host.reduce_andi_all _ _ hr hS j e (ix1 i)
  rw [WordCmp.andi_sge_zero_slt_ofNat hn] at hi
  exact (WordCmp.ofBool_decide_eq_one_iff _).1 hi

variable (m : (ℓ : Loc Cert.KernelIdeal.nD Cert.KernelIdeal.τ Cert.KernelIdeal.sig) → Buf (Elt Ideal) ℓ)

/-- Every index argument of a launch the precondition holds of is in its range. -/
theorem bounds (h : Pre_KernelIdeal_indices_in_range (hPre_indices_in_range := Cert.Pre_indices_in_range.Gen.facts) m) (c : Dev Cert.KernelIdeal.nD) :
    InRange (M := 32) (m ((c.tc : Thread Cert.KernelIdeal.nD Cert.KernelIdeal.τ).loc Cert.KernelIdeal.main_arg1)) 64
    ∧ InRange (M := 32) (m ((c.tc : Thread Cert.KernelIdeal.nD Cert.KernelIdeal.τ).loc Cert.KernelIdeal.main_arg2)) 128
    ∧ InRange (M := 32) (m ((c.tc : Thread Cert.KernelIdeal.nD Cert.KernelIdeal.τ).loc Cert.KernelIdeal.main_arg3)) 256
    ∧ InRange (M := 512) (m ((c.tc : Thread Cert.KernelIdeal.nD Cert.KernelIdeal.τ).loc Cert.KernelIdeal.main_arg27)) 128
    ∧ InRange (M := 2048) (m ((c.tc : Thread Cert.KernelIdeal.nD Cert.KernelIdeal.τ).loc Cert.KernelIdeal.main_arg28)) 512
    ∧ InRange (M := 8192) (m ((c.tc : Thread Cert.KernelIdeal.nD Cert.KernelIdeal.τ).loc Cert.KernelIdeal.main_arg29)) 2048
    ∧ InRange (M := 32768) (m ((c.tc : Thread Cert.KernelIdeal.nD Cert.KernelIdeal.τ).loc Cert.KernelIdeal.main_arg30)) 8192
    ∧ InRange (M := 65536) (m ((c.tc : Thread Cert.KernelIdeal.nD Cert.KernelIdeal.τ).loc Cert.KernelIdeal.main_arg31)) 32768 := by
  have e := congrFun (h c) (Shape.Idx.first (s := S0) (by decide))
  obtain ⟨e, h31⟩ := IntOp.andi_eq_one.1 e
  obtain ⟨e, h30⟩ := IntOp.andi_eq_one.1 e
  obtain ⟨e, h29⟩ := IntOp.andi_eq_one.1 e
  obtain ⟨e, h28⟩ := IntOp.andi_eq_one.1 e
  obtain ⟨e, h27⟩ := IntOp.andi_eq_one.1 e
  obtain ⟨e, h3⟩ := IntOp.andi_eq_one.1 e
  obtain ⟨h1, h2⟩ := IntOp.andi_eq_one.1 e
  exact ⟨of_all _ 64 (by norm_num) _ _ _ _ h1, of_all _ 128 (by norm_num) _ _ _ _ h2, of_all _ 256 (by norm_num) _ _ _ _ h3,
    of_all _ 128 (by norm_num) _ _ _ _ h27, of_all _ 512 (by norm_num) _ _ _ _ h28, of_all _ 2048 (by norm_num) _ _ _ _ h29,
    of_all _ 8192 (by norm_num) _ _ _ _ h30, of_all _ 32768 (by norm_num) _ _ _ _ h31⟩

end Cert.IndexRange

end
-- ==== Proof.RefLayers.lean ====
/- The reference's values at one sample and node. Every array on the nodes is the same along the node axis, so taking
   nodes by an index array changes nothing; each layer is then a dense layer of `Spec` on the sample's vector. -/
module

public import proofs.«01_k».proof.Proof.Gen.ReferenceIdeal.Run
public import proofs.«01_k».proof.Proof.RefTake
public import proofs.«01_k».proof.Proof.Spec
public import Idealize.ShloMosaic.Lib.Tactic.CleanTypes

@[expose] public section

set_option maxRecDepth 16384

noncomputable section

namespace Cert.ReferenceIdeal.Layers

open Cert.ReferenceIdeal Cert.ReferenceIdeal.Gen Cert.ReferenceIdeal.Value Cert.Spec
open Idealize.ShloMosaic Idealize.ShloMosaic.TcCoe Idealize.ShloMosaic.StableHlo

/-- The rectifier tested at zero or above is the rectifier: at zero both give zero. -/
theorem leaky_ge (x : EReal) : (if 0 ≤ x then x else Ideal.ofBits FTy.f32 0x3E4CCCCD#32 * x) = leaky x := by
  unfold leaky
  by_cases h : 0 < x
  · rw [if_pos h, if_pos h.le]
  · rw [if_neg h]
    by_cases h0 : 0 ≤ x
    · rw [if_pos h0, le_antisymm (not_lt.1 h) h0, mul_zero]
    · rw [if_neg h0]

variable (V0 : Valuation τ sig (Elt Ideal))

/-- Every index argument names a row or node that exists. -/
structure InRange : Prop where
  a1 : RefTake.InRange (V0 (Proc.devRef .tc main_arg1)) 64
  a2 : RefTake.InRange (V0 (Proc.devRef .tc main_arg2)) 128
  a3 : RefTake.InRange (V0 (Proc.devRef .tc main_arg3)) 256
  a27 : RefTake.InRange (V0 (Proc.devRef .tc main_arg27)) 128
  a28 : RefTake.InRange (V0 (Proc.devRef .tc main_arg28)) 512
  a29 : RefTake.InRange (V0 (Proc.devRef .tc main_arg29)) 2048
  a30 : RefTake.InRange (V0 (Proc.devRef .tc main_arg30)) 8192
  a31 : RefTake.InRange (V0 (Proc.devRef .tc main_arg31)) 32768

variable {V0} (hV : InRange V0)

include hV in
/-- The study rows: sample `b` gets the row of its study. -/
theorem v0_at (b : Fin 32) (k : Fin 16) (r : Fin 64) (hr : V0 (Proc.devRef .tc main_arg1) (ix1 b) = BitVec.ofNat 32 r.val) :
    res_main_v0 V0 (ix2 b k) = V0 (Proc.devRef .tc main_arg4) (ix2 r k) := by
  have hcol : ∀ i j, res_main_call0_v5 V0 (ix2 i j) = V0 (Proc.devRef .tc main_arg1) (ix1 i) :=
    RefTake.column_at _ 64 (by norm_num) hV.a1 _ _ _
  exact RefTake.rows_at (by norm_num) _ hV.a1 _ hcol _ (RefTake.mask_at _ 64 (by norm_num) hV.a1 _ rfl _ hcol _ _ _ _ _) _ _ rfl rfl rfl rfl rfl _ _ b k r hr

include hV in
/-- The task rows: sample `b` gets the row of its task. -/
theorem v1_at (b : Fin 32) (k : Fin 16) (r : Fin 128) (hr : V0 (Proc.devRef .tc main_arg2) (ix1 b) = BitVec.ofNat 32 r.val) :
    res_main_v1 V0 (ix2 b k) = V0 (Proc.devRef .tc main_arg5) (ix2 r k) := by
  have hcol : ∀ i j, res_main_call1_v5 V0 (ix2 i j) = V0 (Proc.devRef .tc main_arg2) (ix1 i) :=
    RefTake.column_at _ 128 (by norm_num) hV.a2 _ _ _
  exact RefTake.rows_at (by norm_num) _ hV.a2 _ hcol _ (RefTake.mask_at _ 128 (by norm_num) hV.a2 _ rfl _ hcol _ _ _ _ _) _ _ rfl rfl rfl rfl rfl _ _ b k r hr

/-- The three rows joined, from any contrast rows `T`. -/
theorem joined_at (x y T : FVec Ideal S32x16 .f32) (b : Fin 32) (k : Fin 48) :
    concatenate S32x48 1 [⟨S32x16, x⟩, ⟨S32x16, y⟩, ⟨S32x16, T⟩] concatenates_S32x16_S32x16_S32x16_S32x48_d1 (ix2 b k)
      = cat3 (fun k => x (ix2 b k)) (fun k => y (ix2 b k)) (fun k => T (ix2 b k)) k := by
  pointwise
  rfl

include hV in
/-- The three rows joined: sample `b` gets its study's, its task's and its contrast's. -/
theorem v3_at (b : Fin 32) (k : Fin 48) (r : Fin 256) (hr : V0 (Proc.devRef .tc main_arg3) (ix1 b) = BitVec.ofNat 32 r.val) :
    res_main_v3 V0 (ix2 b k) = cat3 (fun k => res_main_v0 V0 (ix2 b k)) (fun k => res_main_v1 V0 (ix2 b k))
      (fun k => V0 (Proc.devRef .tc main_arg6) (ix2 r k)) k := by
  have hcol : ∀ i j, res_main_call2_v5 V0 (ix2 i j) = V0 (Proc.devRef .tc main_arg3) (ix1 i) :=
    RefTake.column_at _ 256 (by norm_num) hV.a3 _ _ _
  refine (joined_at _ _ _ b k).trans (congrArg (fun f => cat3 _ _ f k) (funext fun k => ?_))
  exact RefTake.rows_at (by norm_num) _ hV.a3 _ hcol _ (RefTake.mask_at _ 256 (by norm_num) hV.a3 _ rfl _ hcol _ _ _ _ _) _ _ rfl rfl rfl rfl rfl _ _ b k r hr

variable (V0) in
/-- The first content layer of sample `b`. -/
def c0 (b : Fin 32) : Fin 16 → EReal := dense (fun k => res_main_v0 V0 (ix2 b k)) (fun k o => V0 (Proc.devRef .tc main_arg7) (ix2 k o)) (fun o => V0 (Proc.devRef .tc main_arg8) (ix1 o))
variable (V0) in
/-- The second content layer of sample `b`. -/
def c1 (b : Fin 32) : Fin 16 → EReal := dense2 (p := 16) (q := 16) (fun k => res_main_v0 V0 (ix2 b k)) (fun k => res_main_v1 V0 (ix2 b k)) (fun k o => V0 (Proc.devRef .tc main_arg9) (ix2 k o)) (fun o => V0 (Proc.devRef .tc main_arg10) (ix1 o))
variable (V0) in
/-- The third content layer of sample `b`. -/
def c2 (b : Fin 32) : Fin 16 → EReal := dense (fun k => res_main_v3 V0 (ix2 b k)) (fun k o => V0 (Proc.devRef .tc main_arg11) (ix2 k o)) (fun o => V0 (Proc.devRef .tc main_arg12) (ix1 o))
variable (V0) in
/-- The fourth content layer of sample `b`. -/
def c3 (b : Fin 32) : Fin 16 → EReal := dense (fun k => res_main_v3 V0 (ix2 b k)) (fun k o => V0 (Proc.devRef .tc main_arg13) (ix2 k o)) (fun o => V0 (Proc.devRef .tc main_arg14) (ix1 o))
variable (V0) in
/-- The fifth content layer of sample `b`. -/
def c4 (b : Fin 32) : Fin 16 → EReal := dense (fun k => res_main_v3 V0 (ix2 b k)) (fun k o => V0 (Proc.devRef .tc main_arg15) (ix2 k o)) (fun o => V0 (Proc.devRef .tc main_arg16) (ix1 o))
variable (V0) in
/-- The first node layer of sample `b`, before the rectifier. -/
def a0 (b : Fin 32) : Fin 64 → EReal := dense2 (p := 128) (q := 16) (fun k => V0 (Proc.devRef .tc main_arg0) (ix2 b k)) (c0 V0 b) (fun k o => V0 (Proc.devRef .tc main_arg17) (ix2 k o)) (fun o => V0 (Proc.devRef .tc main_arg18) (ix1 o))
variable (V0) in
/-- The second node layer of sample `b`, before the rectifier. -/
def a1 (b : Fin 32) : Fin 32 → EReal := dense2 (p := 64) (q := 16) (fun k => leaky (a0 V0 b k)) (c1 V0 b) (fun k o => V0 (Proc.devRef .tc main_arg19) (ix2 k o)) (fun o => V0 (Proc.devRef .tc main_arg20) (ix1 o))
variable (V0) in
/-- The third node layer of sample `b`, before the rectifier. -/
def a2 (b : Fin 32) : Fin 16 → EReal := dense2 (p := 32) (q := 16) (fun k => leaky (a1 V0 b k)) (c2 V0 b) (fun k o => V0 (Proc.devRef .tc main_arg21) (ix2 k o)) (fun o => V0 (Proc.devRef .tc main_arg22) (ix1 o))
variable (V0) in
/-- The fourth node layer of sample `b`, before the rectifier. -/
def a3 (b : Fin 32) : Fin 8 → EReal := dense2 (p := 16) (q := 16) (fun k => leaky (a2 V0 b k)) (c3 V0 b) (fun k o => V0 (Proc.devRef .tc main_arg23) (ix2 k o)) (fun o => V0 (Proc.devRef .tc main_arg24) (ix1 o))
variable (V0) in
/-- The fifth node layer of sample `b`, before the rectifier. -/
def a4 (b : Fin 32) : Fin 1 → EReal := dense2 (p := 8) (q := 16) (fun k => leaky (a3 V0 b k)) (c4 V0 b) (fun k o => V0 (Proc.devRef .tc main_arg25) (ix2 k o)) (fun o => V0 (Proc.devRef .tc main_arg26) (ix1 o))

variable (V0) in
/-- The reference's result, from the contents it starts at. -/
def out : FVec Ideal S32x65536x1 .f32 :=
  addf (Host.dotGeneral (φ₁ := .f32) (φ₂ := .f32) dot_S32x65536x24_S24x1_S32x65536x1_2_0_01_1_n_n none (select (broadcastInDim S32x65536x24 ![1] bcast_S65536_S32x65536x24_1 (Host.reduce IntOp.andi (andi (cmpi .sge (res_main_call11_v5 V0) (broadcastInDim S65536x1 ![] bcast_S_S65536x1 (constantI S_ 32 0#32))) (cmpi .sle (res_main_call11_v5 V0) (broadcastInDim S65536x1 ![0, 1] bcast_S1x1_S65536x1_0_1 (broadcastInDim S1x1 ![1] bcast_S1_S1x1_1 (constantI S1 32 32767#32))))) (constantI S_ 1 1#1) reducesTo_S65536x1_S65536_d1 h_S_)) (Host.gather gather_S32x32768x24_S65536x1_S32x65536x24_02_1_n_n_1_1_32124 (concatenate S32x32768x24 2 [⟨S32x32768x8, (select (cmpf .oge (res_main_v61 V0) (broadcastInDim S32x32768x8 ![] bcast_S_S32x32768x8 (constant S_ .f32 0x00000000#32))) (res_main_v61 V0) (mulf (broadcastInDim S32x32768x8 ![] bcast_S_S32x32768x8 (id (constant S_ .f32 0x3E4CCCCD#32))) (res_main_v61 V0)))⟩, ⟨S32x32768x16, (broadcastInDim S32x32768x16 ![0, 1, 2] bcast_S32x1x16_S32x32768x16_0_1_2 (broadcastInDim S32x1x16 ![0, 2] bcast_S32x16_S32x1x16_0_2 (addf (Host.dotGeneral (φ₁ := .f32) (φ₂ := .f32) dot_S32x48_S48x16_S32x16_1_0_0_1_n_n none (res_main_v3 V0) (V0 (Proc.devRef .tc main_arg15))) (broadcastInDim S32x16 ![0, 1] bcast_S1x16_S32x16_0_1 (broadcastInDim S1x16 ![1] bcast_S16_S1x16_1 (V0 (Proc.devRef .tc main_arg16)))))))⟩] concatenates_S32x32768x8_S32x32768x16_S32x32768x24_d2) (res_main_call11_v5 V0)) (broadcastInDim S32x65536x24 ![] bcast_S_S32x65536x24 (constant S_ .f32 0x7FC00000#32))) (V0 (Proc.devRef .tc main_arg25))) (broadcastInDim S32x65536x1 ![0, 1, 2] bcast_S1x1x1_S32x65536x1_0_1_2 (broadcastInDim S1x1x1 ![2] bcast_S1_S1x1x1_2 (V0 (Proc.devRef .tc main_arg26))))

/-- The first node layer's sums, from any input `T`. -/
theorem sums0 (T : FVec Ideal S32x512x144 .f32) (W : FVec Ideal S144x64 .f32) (d : FVec Ideal S64 .f32) (b : Fin 32) (n : Fin 512) (o : Fin 64) :
    addf (Host.dotGeneral dot_S32x512x144_S144x64_S32x512x64_2_0_01_1_n_n none T W) (broadcastInDim S32x512x64 ![0, 1, 2] bcast_S1x1x64_S32x512x64_0_1_2 (broadcastInDim S1x1x64 ![2] bcast_S64_S1x1x64_2 d)) (ix3 b n o)
      = dense (fun k => T (ix3 b n k)) (fun k o => W (ix2 k o)) (fun o => d (ix1 o)) o := by
  pointwise
  rfl

/-- The first content layer at sample `b`. -/
theorem content0 (x : FVec Ideal S32x16 .f32) (W : FVec Ideal S16x16 .f32) (d : FVec Ideal S16 .f32) (b : Fin 32) (o : Fin 16) :
    (addf (Host.dotGeneral dot_S32x16_S16x16_S32x16_1_0_0_1_n_n none x W) (broadcastInDim S32x16 ![0, 1] bcast_S1x16_S32x16_0_1 (broadcastInDim S1x16 ![1] bcast_S16_S1x16_1 d))) (ix2 b o) = dense (fun k => x (ix2 b k)) (fun k o => W (ix2 k o)) (fun o => d (ix1 o)) o := by
  pointwise
  rfl

/-- The first node layer's input before the take: the vector so far joined to the content. -/
theorem input0 (x : FVec Ideal S32x128 .f32) (c : FVec Ideal S32x16 .f32) (b : Fin 32) (n : Fin 128) (k : Fin 144) :
    (concatenate S32x128x144 2 [⟨S32x128x128, (broadcastInDim S32x128x128 ![0, 1, 2] bcast_S32x1x128_S32x128x128_0_1_2 (broadcastInDim S32x1x128 ![0, 2] bcast_S32x128_S32x1x128_0_2 x))⟩, ⟨S32x128x16, (broadcastInDim S32x128x16 ![0, 1, 2] bcast_S32x1x16_S32x128x16_0_1_2 (broadcastInDim S32x1x16 ![0, 2] bcast_S32x16_S32x1x16_0_2 c))⟩] concatenates_S32x128x128_S32x128x16_S32x128x144_d2) (ix3 b n k) = join (p := 128) (q := 16) (fun k => x (ix2 b k)) (fun k => c (ix2 b k)) k := by
  pointwise
  rfl

include hV in
/-- The first node layer at every node is the sample's. -/
theorem prev_at0 (b : Fin 32) (n : Fin 512) (o : Fin 64) : res_main_v34 V0 (ix3 b n o) = a0 V0 b o := by
  have hcol : ∀ i j, res_main_call3_v5 V0 (ix2 i j) = V0 (Proc.devRef .tc main_arg27) (ix1 i) :=
    RefTake.column_at _ 128 (by norm_num) hV.a27 _ _ _
  unfold res_main_v34 a0
  rw [← dense_join]
  refine (sums0 _ _ _ b n o).trans (congrArg (fun f => dense f _ _ o) (funext fun k => ?_))
  exact RefTake.middle_at (B := 32) (N := 128) (K := 144) (M := 512) _ (fun b => join (p := 128) (q := 16) (fun k => V0 (Proc.devRef .tc main_arg0) (ix2 b k)) (c0 V0 b)) _
    (fun b n k => (input0 _ _ b n k).trans (congrArg (fun f => join (p := 128) (q := 16) _ f k) (funext fun o => content0 _ _ _ b o))) _ _
    (RefTake.mask_at _ 128 (by norm_num) hV.a27 _ rfl _ hcol _ _ _ _ _) _ _ b n k

/-- The second node layer's sums, from any input `T`. -/
theorem sums1 (T : FVec Ideal S32x2048x80 .f32) (W : FVec Ideal S80x32 .f32) (d : FVec Ideal S32 .f32) (b : Fin 32) (n : Fin 2048) (o : Fin 32) :
    addf (Host.dotGeneral dot_S32x2048x80_S80x32_S32x2048x32_2_0_01_1_n_n none T W) (broadcastInDim S32x2048x32 ![0, 1, 2] bcast_S1x1x32_S32x2048x32_0_1_2 (broadcastInDim S1x1x32 ![2] bcast_S32_S1x1x32_2 d)) (ix3 b n o)
      = dense (fun k => T (ix3 b n k)) (fun k o => W (ix2 k o)) (fun o => d (ix1 o)) o := by
  pointwise
  rfl

/-- The second content layer at sample `b`. -/
theorem content1 (x y : FVec Ideal S32x16 .f32) (W : FVec Ideal S32x16 .f32) (d : FVec Ideal S16 .f32) (b : Fin 32) (o : Fin 16) :
    (addf (Host.dotGeneral dot_S32x32_S32x16_S32x16_1_0_0_1_n_n none (concatenate S32x32 1 [⟨S32x16, x⟩, ⟨S32x16, y⟩] concatenates_S32x16_S32x16_S32x32_d1) W) (broadcastInDim S32x16 ![0, 1] bcast_S1x16_S32x16_0_1 (broadcastInDim S1x16 ![1] bcast_S16_S1x16_1 d))) (ix2 b o) = dense2 (p := 16) (q := 16) (fun k => x (ix2 b k)) (fun k => y (ix2 b k)) (fun k o => W (ix2 k o)) (fun o => d (ix1 o)) o := by
  pointwise
  rfl

/-- The second node layer's input before the take: the vector so far joined to the content. -/
theorem input1 (x : FVec Ideal S32x512x64 .f32) (c : FVec Ideal S32x16 .f32) (b : Fin 32) (n : Fin 512) (k : Fin 80) :
    (concatenate S32x512x80 2 [⟨S32x512x64, (select (cmpf .oge x (broadcastInDim S32x512x64 ![] bcast_S_S32x512x64 (constant S_ .f32 0x00000000#32))) x (mulf (broadcastInDim S32x512x64 ![] bcast_S_S32x512x64 (id (constant S_ .f32 0x3E4CCCCD#32))) x))⟩, ⟨S32x512x16, (broadcastInDim S32x512x16 ![0, 1, 2] bcast_S32x1x16_S32x512x16_0_1_2 (broadcastInDim S32x1x16 ![0, 2] bcast_S32x16_S32x1x16_0_2 c))⟩] concatenates_S32x512x64_S32x512x16_S32x512x80_d2) (ix3 b n k) = join (p := 64) (q := 16) (fun k => leaky (x (ix3 b n k))) (fun k => c (ix2 b k)) k := by
  pointwise
  exact dite_congr rfl (fun _ => leaky_ge _) fun _ => rfl

include hV in
/-- The second node layer at every node is the sample's. -/
theorem prev_at1 (b : Fin 32) (n : Fin 2048) (o : Fin 32) : res_main_v43 V0 (ix3 b n o) = a1 V0 b o := by
  have hcol : ∀ i j, res_main_call5_v5 V0 (ix2 i j) = V0 (Proc.devRef .tc main_arg28) (ix1 i) :=
    RefTake.column_at _ 512 (by norm_num) hV.a28 _ _ _
  unfold res_main_v43 a1
  rw [← dense_join]
  refine (sums1 _ _ _ b n o).trans (congrArg (fun f => dense f _ _ o) (funext fun k => ?_))
  exact RefTake.middle_at (B := 32) (N := 512) (K := 80) (M := 2048) _ (fun b => join (p := 64) (q := 16) (fun k => leaky (a0 V0 b k)) (c1 V0 b)) _
    (fun b n k => (input1 _ _ b n k).trans (congrArg₂ (fun f g => join (p := 64) (q := 16) f g k) (funext fun k => congrArg leaky (prev_at0 hV b n k)) (funext fun o => content1 _ _ _ _ b o))) _ _
    (RefTake.mask_at _ 512 (by norm_num) hV.a28 _ rfl _ hcol _ _ _ _ _) _ _ b n k

/-- The third node layer's sums, from any input `T`. -/
theorem sums2 (T : FVec Ideal S32x8192x48 .f32) (W : FVec Ideal S48x16 .f32) (d : FVec Ideal S16 .f32) (b : Fin 32) (n : Fin 8192) (o : Fin 16) :
    addf (Host.dotGeneral dot_S32x8192x48_S48x16_S32x8192x16_2_0_01_1_n_n none T W) (broadcastInDim S32x8192x16 ![0, 1, 2] bcast_S1x1x16_S32x8192x16_0_1_2 (broadcastInDim S1x1x16 ![2] bcast_S16_S1x1x16_2 d)) (ix3 b n o)
      = dense (fun k => T (ix3 b n k)) (fun k o => W (ix2 k o)) (fun o => d (ix1 o)) o := by
  pointwise
  rfl

/-- The third, fourth and fifth content layers at sample `b`. -/
theorem content2 (x : FVec Ideal S32x48 .f32) (W : FVec Ideal S48x16 .f32) (d : FVec Ideal S16 .f32) (b : Fin 32) (o : Fin 16) :
    (addf (Host.dotGeneral dot_S32x48_S48x16_S32x16_1_0_0_1_n_n none x W) (broadcastInDim S32x16 ![0, 1] bcast_S1x16_S32x16_0_1 (broadcastInDim S1x16 ![1] bcast_S16_S1x16_1 d))) (ix2 b o) = dense (fun k => x (ix2 b k)) (fun k o => W (ix2 k o)) (fun o => d (ix1 o)) o := by
  pointwise
  rfl

/-- The third node layer's input before the take: the vector so far joined to the content. -/
theorem input2 (x : FVec Ideal S32x2048x32 .f32) (c : FVec Ideal S32x16 .f32) (b : Fin 32) (n : Fin 2048) (k : Fin 48) :
    (concatenate S32x2048x48 2 [⟨S32x2048x32, (select (cmpf .oge x (broadcastInDim S32x2048x32 ![] bcast_S_S32x2048x32 (constant S_ .f32 0x00000000#32))) x (mulf (broadcastInDim S32x2048x32 ![] bcast_S_S32x2048x32 (id (constant S_ .f32 0x3E4CCCCD#32))) x))⟩, ⟨S32x2048x16, (broadcastInDim S32x2048x16 ![0, 1, 2] bcast_S32x1x16_S32x2048x16_0_1_2 (broadcastInDim S32x1x16 ![0, 2] bcast_S32x16_S32x1x16_0_2 c))⟩] concatenates_S32x2048x32_S32x2048x16_S32x2048x48_d2) (ix3 b n k) = join (p := 32) (q := 16) (fun k => leaky (x (ix3 b n k))) (fun k => c (ix2 b k)) k := by
  pointwise
  exact dite_congr rfl (fun _ => leaky_ge _) fun _ => rfl

include hV in
/-- The third node layer at every node is the sample's. -/
theorem prev_at2 (b : Fin 32) (n : Fin 8192) (o : Fin 16) : res_main_v52 V0 (ix3 b n o) = a2 V0 b o := by
  have hcol : ∀ i j, res_main_call7_v5 V0 (ix2 i j) = V0 (Proc.devRef .tc main_arg29) (ix1 i) :=
    RefTake.column_at _ 2048 (by norm_num) hV.a29 _ _ _
  unfold res_main_v52 a2
  rw [← dense_join]
  refine (sums2 _ _ _ b n o).trans (congrArg (fun f => dense f _ _ o) (funext fun k => ?_))
  exact RefTake.middle_at (B := 32) (N := 2048) (K := 48) (M := 8192) _ (fun b => join (p := 32) (q := 16) (fun k => leaky (a1 V0 b k)) (c2 V0 b)) _
    (fun b n k => (input2 _ _ b n k).trans (congrArg₂ (fun f g => join (p := 32) (q := 16) f g k) (funext fun k => congrArg leaky (prev_at1 hV b n k)) (funext fun o => content2 _ _ _ b o))) _ _
    (RefTake.mask_at _ 2048 (by norm_num) hV.a29 _ rfl _ hcol _ _ _ _ _) _ _ b n k

/-- The fourth node layer's sums, from any input `T`. -/
theorem sums3 (T : FVec Ideal S32x32768x32 .f32) (W : FVec Ideal S32x8 .f32) (d : FVec Ideal S8 .f32) (b : Fin 32) (n : Fin 32768) (o : Fin 8) :
    addf (Host.dotGeneral dot_S32x32768x32_S32x8_S32x32768x8_2_0_01_1_n_n none T W) (broadcastInDim S32x32768x8 ![0, 1, 2] bcast_S1x1x8_S32x32768x8_0_1_2 (broadcastInDim S1x1x8 ![2] bcast_S8_S1x1x8_2 d)) (ix3 b n o)
      = dense (fun k => T (ix3 b n k)) (fun k o => W (ix2 k o)) (fun o => d (ix1 o)) o := by
  pointwise
  rfl

/-- The fourth node layer's input before the take: the vector so far joined to the content. -/
theorem input3 (x : FVec Ideal S32x8192x16 .f32) (c : FVec Ideal S32x16 .f32) (b : Fin 32) (n : Fin 8192) (k : Fin 32) :
    (concatenate S32x8192x32 2 [⟨S32x8192x16, (select (cmpf .oge x (broadcastInDim S32x8192x16 ![] bcast_S_S32x8192x16 (constant S_ .f32 0x00000000#32))) x (mulf (broadcastInDim S32x8192x16 ![] bcast_S_S32x8192x16 (id (constant S_ .f32 0x3E4CCCCD#32))) x))⟩, ⟨S32x8192x16, (broadcastInDim S32x8192x16 ![0, 1, 2] bcast_S32x1x16_S32x8192x16_0_1_2 (broadcastInDim S32x1x16 ![0, 2] bcast_S32x16_S32x1x16_0_2 c))⟩] concatenates_S32x8192x16_S32x8192x16_S32x8192x32_d2) (ix3 b n k) = join (p := 16) (q := 16) (fun k => leaky (x (ix3 b n k))) (fun k => c (ix2 b k)) k := by
  pointwise
  exact dite_congr rfl (fun _ => leaky_ge _) fun _ => rfl

include hV in
/-- The fourth node layer at every node is the sample's. -/
theorem prev_at3 (b : Fin 32) (n : Fin 32768) (o : Fin 8) : res_main_v61 V0 (ix3 b n o) = a3 V0 b o := by
  have hcol : ∀ i j, res_main_call9_v5 V0 (ix2 i j) = V0 (Proc.devRef .tc main_arg30) (ix1 i) :=
    RefTake.column_at _ 8192 (by norm_num) hV.a30 _ _ _
  unfold res_main_v61 a3
  rw [← dense_join]
  refine (sums3 _ _ _ b n o).trans (congrArg (fun f => dense f _ _ o) (funext fun k => ?_))
  exact RefTake.middle_at (B := 32) (N := 8192) (K := 32) (M := 32768) _ (fun b => join (p := 16) (q := 16) (fun k => leaky (a2 V0 b k)) (c3 V0 b)) _
    (fun b n k => (input3 _ _ b n k).trans (congrArg₂ (fun f g => join (p := 16) (q := 16) f g k) (funext fun k => congrArg leaky (prev_at2 hV b n k)) (funext fun o => content2 _ _ _ b o))) _ _
    (RefTake.mask_at _ 8192 (by norm_num) hV.a30 _ rfl _ hcol _ _ _ _ _) _ _ b n k

/-- The fifth node layer's sums, from any input `T`. -/
theorem sums4 (T : FVec Ideal S32x65536x24 .f32) (W : FVec Ideal S24x1 .f32) (d : FVec Ideal S1 .f32) (b : Fin 32) (n : Fin 65536) (o : Fin 1) :
    addf (Host.dotGeneral dot_S32x65536x24_S24x1_S32x65536x1_2_0_01_1_n_n none T W) (broadcastInDim S32x65536x1 ![0, 1, 2] bcast_S1x1x1_S32x65536x1_0_1_2 (broadcastInDim S1x1x1 ![2] bcast_S1_S1x1x1_2 d)) (ix3 b n o)
      = dense (fun k => T (ix3 b n k)) (fun k o => W (ix2 k o)) (fun o => d (ix1 o)) o := by
  rw [Subsingleton.elim o 0]; pointwise
  rfl

/-- The fifth node layer's input before the take: the vector so far joined to the content. -/
theorem input4 (x : FVec Ideal S32x32768x8 .f32) (c : FVec Ideal S32x16 .f32) (b : Fin 32) (n : Fin 32768) (k : Fin 24) :
    (concatenate S32x32768x24 2 [⟨S32x32768x8, (select (cmpf .oge x (broadcastInDim S32x32768x8 ![] bcast_S_S32x32768x8 (constant S_ .f32 0x00000000#32))) x (mulf (broadcastInDim S32x32768x8 ![] bcast_S_S32x32768x8 (id (constant S_ .f32 0x3E4CCCCD#32))) x))⟩, ⟨S32x32768x16, (broadcastInDim S32x32768x16 ![0, 1, 2] bcast_S32x1x16_S32x32768x16_0_1_2 (broadcastInDim S32x1x16 ![0, 2] bcast_S32x16_S32x1x16_0_2 c))⟩] concatenates_S32x32768x8_S32x32768x16_S32x32768x24_d2) (ix3 b n k) = join (p := 8) (q := 16) (fun k => leaky (x (ix3 b n k))) (fun k => c (ix2 b k)) k := by
  pointwise
  exact dite_congr rfl (fun _ => leaky_ge _) fun _ => rfl

include hV in
/-- The fifth node layer at every node is the sample's. -/
theorem prev_at4 (b : Fin 32) (n : Fin 65536) (o : Fin 1) : out V0 (ix3 b n o) = a4 V0 b o := by
  have hcol : ∀ i j, res_main_call11_v5 V0 (ix2 i j) = V0 (Proc.devRef .tc main_arg31) (ix1 i) :=
    RefTake.column_at _ 32768 (by norm_num) hV.a31 _ _ _
  unfold out a4
  rw [← dense_join]
  refine (sums4 _ _ _ b n o).trans (congrArg (fun f => dense f _ _ o) (funext fun k => ?_))
  exact RefTake.middle_at (B := 32) (N := 32768) (K := 24) (M := 65536) _ (fun b => join (p := 8) (q := 16) (fun k => leaky (a3 V0 b k)) (c4 V0 b)) _
    (fun b n k => (input4 _ _ b n k).trans (congrArg₂ (fun f g => join (p := 8) (q := 16) f g k) (funext fun k => congrArg leaky (prev_at3 hV b n k)) (funext fun o => content2 _ _ _ b o))) _ _
    (RefTake.mask_at _ 32768 (by norm_num) hV.a31 _ rfl _ hcol _ _ _ _ _) _ _ b n k

end Cert.ReferenceIdeal.Layers

end
-- ==== Proof.Agree.lean ====
/- The reference's result at one sample and node, from the arguments; and the reference's result against the kernel's. -/
module

public import proofs.«01_k».proof.Proof.IdealResult
public import proofs.«01_k».proof.Proof.IndexRange
public import proofs.«01_k».proof.Proof.RefLayers

@[expose] public section

set_option maxRecDepth 16384

noncomputable section

open Idealize.ShloMosaic Idealize.ShloMosaic.TcCoe Idealize.ShloMosaic.StableHlo Cert.Spec

namespace Cert.ReferenceIdeal.Layers

open Cert.ReferenceIdeal Cert.ReferenceIdeal.Gen Cert.ReferenceIdeal.Value

/-- The reference's result at sample `b` is the sample's score, whatever the node. -/
theorem out_at {V0 : Valuation τ sig (Elt Ideal)} (hV : InRange V0) (b : Fin 32) (n : Fin 65536) (rs : Fin 64) (rt : Fin 128) (rc : Fin 256)
    (hs : V0 (Proc.devRef .tc main_arg1) (ix1 b) = BitVec.ofNat 32 rs.val)
    (ht : V0 (Proc.devRef .tc main_arg2) (ix1 b) = BitVec.ofNat 32 rt.val)
    (hc : V0 (Proc.devRef .tc main_arg3) (ix1 b) = BitVec.ofNat 32 rc.val) :
    out V0 (ix3 b n 0) = sampleScore (fun k => V0 (Proc.devRef .tc main_arg0) (ix2 b k)) (fun k => V0 (Proc.devRef .tc main_arg4) (ix2 rs k)) (fun k => V0 (Proc.devRef .tc main_arg5) (ix2 rt k))
      (fun k => V0 (Proc.devRef .tc main_arg6) (ix2 rc k))
      (fun k o => V0 (Proc.devRef .tc main_arg7) (ix2 k o)) (fun o => V0 (Proc.devRef .tc main_arg8) (ix1 o))
      (fun k o => V0 (Proc.devRef .tc main_arg9) (ix2 k o)) (fun o => V0 (Proc.devRef .tc main_arg10) (ix1 o))
      (fun k o => V0 (Proc.devRef .tc main_arg11) (ix2 k o)) (fun o => V0 (Proc.devRef .tc main_arg12) (ix1 o))
      (fun k o => V0 (Proc.devRef .tc main_arg13) (ix2 k o)) (fun o => V0 (Proc.devRef .tc main_arg14) (ix1 o))
      (fun k o => V0 (Proc.devRef .tc main_arg15) (ix2 k o)) (fun o => V0 (Proc.devRef .tc main_arg16) (ix1 o))
      (fun k o => V0 (Proc.devRef .tc main_arg17) (ix2 k o)) (fun o => V0 (Proc.devRef .tc main_arg18) (ix1 o))
      (fun k o => V0 (Proc.devRef .tc main_arg19) (ix2 k o)) (fun o => V0 (Proc.devRef .tc main_arg20) (ix1 o))
      (fun k o => V0 (Proc.devRef .tc main_arg21) (ix2 k o)) (fun o => V0 (Proc.devRef .tc main_arg22) (ix1 o))
      (fun k o => V0 (Proc.devRef .tc main_arg23) (ix2 k o)) (fun o => V0 (Proc.devRef .tc main_arg24) (ix1 o))
      (fun k o => V0 (Proc.devRef .tc main_arg25) (ix2 k o)) (fun o => V0 (Proc.devRef .tc main_arg26) (ix1 o)) := by
  have es : (fun k => res_main_v0 V0 (ix2 b k)) = fun k => V0 (Proc.devRef .tc main_arg4) (ix2 rs k) := funext fun k => v0_at hV b k rs hs
  have et : (fun k => res_main_v1 V0 (ix2 b k)) = fun k => V0 (Proc.devRef .tc main_arg5) (ix2 rt k) := funext fun k => v1_at hV b k rt ht
  have ec : (fun k => res_main_v3 V0 (ix2 b k)) = _ := funext fun k => v3_at hV b k rc hc
  rw [prev_at4 hV b n 0]
  unfold a4 a3 a2 a1 a0 c0 c1 c2 c3 c4
  rw [ec, es, et]
  rfl

end Cert.ReferenceIdeal.Layers

namespace Cert.Agree

variable (m : (ℓ : Loc Cert.KernelIdeal.nD Cert.KernelIdeal.τ Cert.KernelIdeal.sig) → Buf (Elt Ideal) ℓ)

/-- From equal arguments with the indices in range, the reference's result is the kernel's. -/
theorem same_result (c : Dev Cert.KernelIdeal.nD) (V0 : Valuation Cert.ReferenceIdeal.τ Cert.ReferenceIdeal.sig (Elt Ideal)) (hV : Cert.ReferenceIdeal.Layers.InRange V0)
    (h0 : V0 (Proc.devRef .tc Cert.ReferenceIdeal.main_arg0) = m ((c.tc : Thread Cert.KernelIdeal.nD Cert.KernelIdeal.τ).loc Cert.KernelIdeal.main_arg0))
    (h1 : V0 (Proc.devRef .tc Cert.ReferenceIdeal.main_arg1) = m ((c.tc : Thread Cert.KernelIdeal.nD Cert.KernelIdeal.τ).loc Cert.KernelIdeal.main_arg1))
    (h2 : V0 (Proc.devRef .tc Cert.ReferenceIdeal.main_arg2) = m ((c.tc : Thread Cert.KernelIdeal.nD Cert.KernelIdeal.τ).loc Cert.KernelIdeal.main_arg2))
    (h3 : V0 (Proc.devRef .tc Cert.ReferenceIdeal.main_arg3) = m ((c.tc : Thread Cert.KernelIdeal.nD Cert.KernelIdeal.τ).loc Cert.KernelIdeal.main_arg3))
    (h4 : V0 (Proc.devRef .tc Cert.ReferenceIdeal.main_arg4) = m ((c.tc : Thread Cert.KernelIdeal.nD Cert.KernelIdeal.τ).loc Cert.KernelIdeal.main_arg4))
    (h5 : V0 (Proc.devRef .tc Cert.ReferenceIdeal.main_arg5) = m ((c.tc : Thread Cert.KernelIdeal.nD Cert.KernelIdeal.τ).loc Cert.KernelIdeal.main_arg5))
    (h6 : V0 (Proc.devRef .tc Cert.ReferenceIdeal.main_arg6) = m ((c.tc : Thread Cert.KernelIdeal.nD Cert.KernelIdeal.τ).loc Cert.KernelIdeal.main_arg6))
    (h7 : V0 (Proc.devRef .tc Cert.ReferenceIdeal.main_arg7) = m ((c.tc : Thread Cert.KernelIdeal.nD Cert.KernelIdeal.τ).loc Cert.KernelIdeal.main_arg7))
    (h8 : V0 (Proc.devRef .tc Cert.ReferenceIdeal.main_arg8) = m ((c.tc : Thread Cert.KernelIdeal.nD Cert.KernelIdeal.τ).loc Cert.KernelIdeal.main_arg8))
    (h9 : V0 (Proc.devRef .tc Cert.ReferenceIdeal.main_arg9) = m ((c.tc : Thread Cert.KernelIdeal.nD Cert.KernelIdeal.τ).loc Cert.KernelIdeal.main_arg9))
    (h10 : V0 (Proc.devRef .tc Cert.ReferenceIdeal.main_arg10) = m ((c.tc : Thread Cert.KernelIdeal.nD Cert.KernelIdeal.τ).loc Cert.KernelIdeal.main_arg10))
    (h11 : V0 (Proc.devRef .tc Cert.ReferenceIdeal.main_arg11) = m ((c.tc : Thread Cert.KernelIdeal.nD Cert.KernelIdeal.τ).loc Cert.KernelIdeal.main_arg11))
    (h12 : V0 (Proc.devRef .tc Cert.ReferenceIdeal.main_arg12) = m ((c.tc : Thread Cert.KernelIdeal.nD Cert.KernelIdeal.τ).loc Cert.KernelIdeal.main_arg12))
    (h13 : V0 (Proc.devRef .tc Cert.ReferenceIdeal.main_arg13) = m ((c.tc : Thread Cert.KernelIdeal.nD Cert.KernelIdeal.τ).loc Cert.KernelIdeal.main_arg13))
    (h14 : V0 (Proc.devRef .tc Cert.ReferenceIdeal.main_arg14) = m ((c.tc : Thread Cert.KernelIdeal.nD Cert.KernelIdeal.τ).loc Cert.KernelIdeal.main_arg14))
    (h15 : V0 (Proc.devRef .tc Cert.ReferenceIdeal.main_arg15) = m ((c.tc : Thread Cert.KernelIdeal.nD Cert.KernelIdeal.τ).loc Cert.KernelIdeal.main_arg15))
    (h16 : V0 (Proc.devRef .tc Cert.ReferenceIdeal.main_arg16) = m ((c.tc : Thread Cert.KernelIdeal.nD Cert.KernelIdeal.τ).loc Cert.KernelIdeal.main_arg16))
    (h17 : V0 (Proc.devRef .tc Cert.ReferenceIdeal.main_arg17) = m ((c.tc : Thread Cert.KernelIdeal.nD Cert.KernelIdeal.τ).loc Cert.KernelIdeal.main_arg17))
    (h18 : V0 (Proc.devRef .tc Cert.ReferenceIdeal.main_arg18) = m ((c.tc : Thread Cert.KernelIdeal.nD Cert.KernelIdeal.τ).loc Cert.KernelIdeal.main_arg18))
    (h19 : V0 (Proc.devRef .tc Cert.ReferenceIdeal.main_arg19) = m ((c.tc : Thread Cert.KernelIdeal.nD Cert.KernelIdeal.τ).loc Cert.KernelIdeal.main_arg19))
    (h20 : V0 (Proc.devRef .tc Cert.ReferenceIdeal.main_arg20) = m ((c.tc : Thread Cert.KernelIdeal.nD Cert.KernelIdeal.τ).loc Cert.KernelIdeal.main_arg20))
    (h21 : V0 (Proc.devRef .tc Cert.ReferenceIdeal.main_arg21) = m ((c.tc : Thread Cert.KernelIdeal.nD Cert.KernelIdeal.τ).loc Cert.KernelIdeal.main_arg21))
    (h22 : V0 (Proc.devRef .tc Cert.ReferenceIdeal.main_arg22) = m ((c.tc : Thread Cert.KernelIdeal.nD Cert.KernelIdeal.τ).loc Cert.KernelIdeal.main_arg22))
    (h23 : V0 (Proc.devRef .tc Cert.ReferenceIdeal.main_arg23) = m ((c.tc : Thread Cert.KernelIdeal.nD Cert.KernelIdeal.τ).loc Cert.KernelIdeal.main_arg23))
    (h24 : V0 (Proc.devRef .tc Cert.ReferenceIdeal.main_arg24) = m ((c.tc : Thread Cert.KernelIdeal.nD Cert.KernelIdeal.τ).loc Cert.KernelIdeal.main_arg24))
    (h25 : V0 (Proc.devRef .tc Cert.ReferenceIdeal.main_arg25) = m ((c.tc : Thread Cert.KernelIdeal.nD Cert.KernelIdeal.τ).loc Cert.KernelIdeal.main_arg25))
    (h26 : V0 (Proc.devRef .tc Cert.ReferenceIdeal.main_arg26) = m ((c.tc : Thread Cert.KernelIdeal.nD Cert.KernelIdeal.τ).loc Cert.KernelIdeal.main_arg26)) :
    Cert.ReferenceIdeal.Layers.out V0 = Cert.KernelIdeal.Hand.resultAt m c := by
  funext j
  obtain ⟨b, n, rfl⟩ : ∃ (b : Fin 32) (n : Fin 65536), j = ix3 (n0 := 32) (n1 := 65536) (n2 := 1) b n 0 :=
    ⟨j 0, j 1, (RefTake.eta3 (n := 32) (k := 65536) (l := 1) j).trans
      (congrArg (ix3 (n0 := 32) (n1 := 65536) (n2 := 1) (j 0) (j 1)) (Subsingleton.elim (α := Fin 1) (j 2) 0))⟩
  have word : ∀ w : BitVec 32, w = BitVec.ofNat 32 w.toNat := fun w => by simp
  have hs := hV.a1 b
  have ht := hV.a2 b
  have hc := hV.a3 b
  have es := word (V0 (Proc.devRef .tc Cert.ReferenceIdeal.main_arg1) (ix1 b))
  have et := word (V0 (Proc.devRef .tc Cert.ReferenceIdeal.main_arg2) (ix1 b))
  have ec := word (V0 (Proc.devRef .tc Cert.ReferenceIdeal.main_arg3) (ix1 b))
  refine (Cert.ReferenceIdeal.Layers.out_at hV b n ⟨_, hs⟩ ⟨_, ht⟩ ⟨_, hc⟩ es et ec).trans ?_
  refine Eq.trans ?_ ((Cert.KernelIdeal.Hand.result_at m c b n).trans (Cert.KernelIdeal.Hand.scoreAt_args m c b ⟨_, hs⟩ ⟨_, ht⟩ ⟨_, hc⟩
    ((congrFun h1 (ix1 b)).symm.trans es) ((congrFun h2 (ix1 b)).symm.trans et) ((congrFun h3 (ix1 b)).symm.trans ec))).symm
  rw [h0, h4, h5, h6, h7, h8, h9, h10, h11, h12, h13, h14, h15, h16, h17, h18, h19, h20, h21, h22, h23, h24, h25, h26]

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_indices_in_range
public import proofs.«01_k».proof.Proof.Agree
public import proofs.«01_k».proof.Proof.IdealFrame
public import proofs.«01_k».proof.Proof.KernelFrame
public import Idealize.ShloMosaic.Adequacy
public import Idealize.ShloMosaic.Init

@[expose] public section

set_option maxRecDepth 16384

noncomputable section

namespace Cert.Proof

open Idealize.ShloMosaic Idealize.SL.Sem Cert.Kernel

/-- Every run of the reference ends with its arguments as launched and its semaphores at zero. -/
theorem reference_frame : quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference end with one result, from equal arguments with the indices in range. -/
theorem values : algebraic_KernelIdeal_ReferenceIdeal_pre_indices_in_range (hKernelIdeal := Cert.KernelIdeal.Gen.facts)
    (hReferenceIdeal := Cert.ReferenceIdeal.Gen.facts) (hPre_indices_in_range := Cert.Pre_indices_in_range.Gen.facts) := by
  intro m g m' g' hpre hagree
  refine ⟨fun c => Cert.KernelIdeal.Hand.resultAt m c, Cert.KernelIdeal.Hand.run_value m g,
    (θ_run Cert.ReferenceIdeal.defs _ _).mono (fun r h c => ⟨(h c).1.trans ?_, (h c).2⟩) (Cert.ReferenceIdeal.Value.run (F := Ideal) m' g')⟩
  obtain ⟨a0, a1, a2, a3, a4, a5, a6, a7, a8, a9, a10, a11, a12, a13, a14, a15, a16, a17, a18, a19, a20, a21, a22, a23, a24, a25, a26, a27, a28, a29, a30, a31⟩ := hagree c
  obtain ⟨b1, b2, b3, b27, b28, b29, b30, b31⟩ := Cert.IndexRange.bounds m hpre c
  rw [← a1] at b1
  rw [← a2] at b2
  rw [← a3] at b3
  rw [← a27] at b27
  rw [← a28] at b28
  rw [← a29] at b29
  rw [← a30] at b30
  rw [← a31] at b31
  exact Cert.Agree.same_result m c (StableHlo.launchContents m' c) ⟨b1, b2, b3, b27, b28, b29, b30, b31⟩
    a0 a1 a2 a3 a4 a5 a6 a7 a8 a9 a10 a11 a12 a13 a14 a15 a16 a17 a18 a19 a20 a21 a22 a23 a24 a25 a26

/-- Every claim of the certificate. -/
theorem claim : Cert.Claim :=
  ⟨Cert.Kernel.Gen.facts, Cert.KernelIdeal.Gen.facts, Cert.ReferenceIdeal.Gen.facts, Cert.Pre_indices_in_range.Gen.facts,
    fun m ρ _ => Cert.Kernel.Hand.frame m ρ, fun m ρ _ => Cert.KernelIdeal.Hand.frame m ρ, fun m ρ _ => Cert.KernelIdeal.Hand.frame m ρ,
    reference_frame, fun m ρ _ => reference_frame m ρ trivial, trivial, values⟩

end Cert.Proof

end
